-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v7) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_on_clip_is_idle [hKernelIdeal : Cert.KernelIdeal.Facts] [hReferenceIdeal : Cert.ReferenceIdeal.Facts] [hOn_clip_is_idle : Cert.On_clip_is_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 2048]⟩ : Shape).Idx, (Layout.block ⟨2, ![512, 2048]⟩ ⟨2, ![2048, 2048]⟩ 0 4 c ((Cert.On_clip_is_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![512, 2048]⟩ : Shape).Idx → _) i = 1#1 → r.2.mem ((c.tc : Thread Cert.KernelIdeal.nD Cert.KernelIdeal.τ).loc Cert.KernelIdeal.main_v1) i = (Layout.block ⟨2, ![512, 2048]⟩ ⟨2, ![2048, 2048]⟩ 0 4 c v0 : (⟨2, ![512, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 2048]⟩ : Shape).Idx, (Cert.On_clip_is_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_clip_is_idle : Cert.On_clip_is_idle.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_on_clip_is_idle (hKernelIdeal := hKernelIdeal) (hReferenceIdeal := hReferenceIdeal) (hOn_clip_is_idle := hOn_clip_is_idle)
-- ==== On_clip_is_idle.lean ====
abbrev S2048x2048 : Shape := ⟨2, ![2048, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .bf16) (main_arg1 : FVec F S2048x2048 .bf16) : IVec S2048x2048 1 :=
  let main_v0 : FVec F S2048x2048 .f32 := (extf .f32 · bitsLt_bf16_f32) main_arg0
  let main_v1 : FVec F S2048x2048 .f32 := (extf .f32 · bitsLt_bf16_f32) main_arg1
  let main_v2 : FVec F S2048x2048 .f32 := (fun l r => Host.dotGeneral dot_S2048x2048_S2048x2048_S2048x2048_1_0_0_1_n_n none l r) main_v0 main_v1
  let main_v3 : FVec F S2048x2048 .f32 := Host.absf main_v2
  let main_cst : FVec F S_ .f32 := constant S_ .f32 0x42700000#32
  let main_v4 : FVec F S2048x2048 .f32 := broadcastInDim S2048x2048 ![] bcast_S_S2048x2048 main_cst
  let main_v5 : IVec S2048x2048 1 := cmpf .ole main_v3 main_v4
  main_v5
-- ==== Kernel.lean ====
abbrev S2048x512 : Shape := ⟨2, ![2048, 512]⟩
abbrev S512x2048 : Shape := ⟨2, ![512, 2048]⟩
abbrev S4x512x1024 : Shape := ⟨3, ![4, 512, 1024]⟩
abbrev S3x512x1024 : Shape := ⟨3, ![3, 512, 1024]⟩
abbrev S3x2 : Shape := ⟨2, ![3, 2]⟩
abbrev S_ : Shape := ⟨0, ![]⟩
abbrev S512x512 : Shape := ⟨2, ![512, 512]⟩
abbrev S512x1024 : Shape := ⟨2, ![512, 1024]⟩
abbrev S1x512x1024 : Shape := ⟨3, ![1, 512, 1024]⟩
abbrev S1x1 : Shape := ⟨2, ![1, 1]⟩
abbrev S1x256x1024 : Shape := ⟨3, ![1, 256, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S512x2048, .f32⟩
  | .local _ .vmem, ⟨0, _⟩ => ⟨S2048x512, .bf16⟩
  | .local _ .vmem, ⟨1, _⟩ => ⟨S512x2048, .bf16⟩
  | .local _ .vmem, ⟨2, _⟩ => ⟨S512x2048, .f32⟩
  | .local _ .vmem, ⟨3, _⟩ => ⟨S4x512x1024, .bf16⟩
  | .local _ .vmem, ⟨4, _⟩ => ⟨S4x512x1024, .bf16⟩
  | .local _ .vmem, ⟨5, _⟩ => ⟨S3x512x1024, .f32⟩
  | .local _ .vmem, ⟨6, _⟩ => ⟨S3x512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_20 : BitVec 32 := 4#32
  let v31 : BitVec 32 := Scalar.addi v2 c4_i32_20
  let c1_i32_21 : BitVec 32 := 1#32
  let v32 : BitVec 32 := Scalar.subi v31 c1_i32_21
  let c4_i32_22 : BitVec 32 := 4#32
  let c0_i32_23 : BitVec 32 := 0#32
  let v33 : BitVec 1 := Scalar.cmpi .eq c4_i32_22 c0_i32_23
  let c1_i32_24 : BitVec 32 := 1#32
  let v34 : BitVec 32 := Scalar.select v33 c1_i32_24 c4_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c512_i32 : BitVec 32 := 512#32
  let v43 : BitVec 32 := Scalar.muli v42 c512_i32
  let v44 : Index := Scalar.indexCast v43
  let c0 : Index := 0#32
  ![v44.toNat, 0]
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_39 : BitVec 32 := 1#32
  let v54 : BitVec 32 := Scalar.muli v25 c1_i32_39
  let v55 : BitVec 32 := Scalar.addi c0_i32_40 v54
  v55.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_51 : BitVec 32 := 1#32
  let v64 : BitVec 32 := Scalar.muli v25 c1_i32_51
  let v65 : BitVec 32 := Scalar.addi c0_i32_52 v64
  v65.toNat
def k0_off2 (d0 : Dev nD) (c1_i32_56 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v74 : BitVec 32 := Scalar.addi v2 c1_i32_56
  let c4_i32_57 : BitVec 32 := 4#32
  let c0_i32_58 : BitVec 32 := 0#32
  let v75 : BitVec 1 := Scalar.cmpi .eq c4_i32_57 c0_i32_58
  let c1_i32_59 : BitVec 32 := 1#32
  let v76 : BitVec 32 := Scalar.select v75 c1_i32_59 c4_i32_57
  let v77 : BitVec 32 := Scalar.remsi v74 v76
  let c0_i32_61 : BitVec 32 := 0#32
  let v79 : BitVec 1 := Scalar.cmpi .slt v77 c0_i32_61
  let c0_i32_62 : BitVec 32 := 0#32
  let v80 : BitVec 1 := Scalar.cmpi .slt v76 c0_i32_62
  let v81 : BitVec 1 := Scalar.xori v79 v80
  let c0_i32_60 : BitVec 32 := 0#32
  let v78 : BitVec 1 := Scalar.cmpi .ne v77 c0_i32_60
  let v82 : BitVec 1 := Scalar.andi v81 v78
  let v83 : BitVec 32 := Scalar.addi v77 v76
  let v84 : BitVec 32 := Scalar.select v82 v83 v77
  let c512_i32_63 : BitVec 32 := 512#32
  let v85 : BitVec 32 := Scalar.muli v84 c512_i32_63
  let v86 : Index := Scalar.indexCast v85
  let c0_64 : Index := 0#32
  ![v86.toNat, 0]
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_76 : BitVec 32 := 1#32
  let v96 : BitVec 32 := Scalar.muli v14 c1_i32_76
  let v97 : BitVec 32 := Scalar.addi c0_i32_77 v96
  v97.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_88 : BitVec 32 := 1#32
  let v106 : BitVec 32 := Scalar.muli v14 c1_i32_88
  let v107 : BitVec 32 := Scalar.addi c0_i32_89 v106
  v107.toNat
def k0_off3 (d0 : Dev nD) (c0_i32_109 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v137 : BitVec 32 := Scalar.addi v2 c0_i32_109
  let c2_i32_110 : BitVec 32 := 2#32
  let v138 : BitVec 32 := Scalar.addi v137 c2_i32_110
  let c4_i32_111 : BitVec 32 := 4#32
  let c0_i32_112 : BitVec 32 := 0#32
  let v139 : BitVec 1 := Scalar.cmpi .eq c4_i32_111 c0_i32_112
  let c1_i32_113 : BitVec 32 := 1#32
  let v140 : BitVec 32 := Scalar.select v139 c1_i32_113 c4_i32_111
  let v141 : BitVec 32 := Scalar.remsi v138 v140
  let c0_i32_115 : BitVec 32 := 0#32
  let v143 : BitVec 1 := Scalar.cmpi .slt v141 c0_i32_115
  let c0_i32_116 : BitVec 32 := 0#32
  let v144 : BitVec 1 := Scalar.cmpi .slt v140 c0_i32_116
  let v145 : BitVec 1 := Scalar.xori v143 v144
  let c0_i32_114 : BitVec 32 := 0#32
  let v142 : BitVec 1 := Scalar.cmpi .ne v141 c0_i32_114
  let v146 : BitVec 1 := Scalar.andi v145 v142
  let v147 : BitVec 32 := Scalar.addi v141 v140
  let v148 : BitVec 32 := Scalar.select v146 v147 v141
  let c512_i32_117 : BitVec 32 := 512#32
  let v149 : BitVec 32 := Scalar.muli v148 c512_i32_117
  let v150 : Index := Scalar.indexCast v149
  let c0_118 : Index := 0#32
  ![v150.toNat, 0]
def k0_dev7 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_212 : BitVec 32 := 1#32
  let v263 : BitVec 32 := Scalar.muli v25 c1_i32_212
  let v264 : BitVec 32 := Scalar.addi c0_i32_213 v263
  v264.toNat
def k0_dev8 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_245 : BitVec 32 := 1#32
  let v291 : BitVec 32 := Scalar.muli v14 c1_i32_245
  let v292 : BitVec 32 := Scalar.addi c0_i32_246 v291
  v292.toNat
def k0_dev9 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_277 : BitVec 32 := 1#32
  let v319 : BitVec 32 := Scalar.muli v25 c1_i32_277
  let v320 : BitVec 32 := Scalar.addi c0_i32_278 v319
  v320.toNat
def k0_dev10 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_310 : BitVec 32 := 1#32
  let v347 : BitVec 32 := Scalar.muli v14 c1_i32_310
  let v348 : BitVec 32 := Scalar.addi c0_i32_311 v347
  v348.toNat
def k0_dev11 (d0 : Dev nD) : Nat :=
  let c0_i32_343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_342 : BitVec 32 := 1#32
  let v375 : BitVec 32 := Scalar.muli v25 c1_i32_342
  let v376 : BitVec 32 := Scalar.addi c0_i32_343 v375
  v376.toNat
def k0_dev12 (d0 : Dev nD) : Nat :=
  let c0_i32_376 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_375 : BitVec 32 := 1#32
  let v403 : BitVec 32 := Scalar.muli v14 c1_i32_375
  let v404 : BitVec 32 := Scalar.addi c0_i32_376 v403
  v404.toNat
def k0_dev13 (d0 : Dev nD) : Nat :=
  let c0_i32_409 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_408 : BitVec 32 := 1#32
  let v431 : BitVec 32 := Scalar.muli v25 c1_i32_408
  let v432 : BitVec 32 := Scalar.addi c0_i32_409 v431
  v432.toNat
def k0_dev14 (d0 : Dev nD) : Nat :=
  let c0_i32_442 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_441 : BitVec 32 := 1#32
  let v459 : BitVec 32 := Scalar.muli v14 c1_i32_441
  let v460 : BitVec 32 := Scalar.addi c0_i32_442 v459
  v460.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== SiluIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Program.lean ====
/-
# The kernel's body as one flat sequence of steps

The printed body is cut into parts of a fixed length, so that its cuts fall in the middle of a hop. Here it is
written again as what it is: a handshake, two first products sent out, six products kept, eight hops (receive a
half block, add the kept product, send it on), four last additions stored through the epilogue, twelve waits for
the sends. One function gives each kind of step at a direction `b` (`false`: to the right, `true`: to the left),
a hop and a half; `body_flat` says the printed body is the sequence of them.
-/
module

public import proofs.«01_k».proof.Proof.Gen.KernelIdeal
public import proofs.«01_k».proof.Proof.Gen.KernelIdeal.Skeleton

@[expose] public section

noncomputable section

namespace Cert.RingMatmul

open Cert.KernelIdeal Cert.KernelIdeal.Gen
open Idealize.ShloMosaic Idealize.ShloMosaic.TcCoe
open Idealize.SL.Sem

variable {F : FTy → Type} [FloatOps F]

/-! ## The buffers, by direction -/

abbrev xM : Memref sig .tc .vmem S2048x512 .bf16 := Memref.whole cc0_stg0_0
abbrev wM : Memref sig .tc .vmem S512x2048 .bf16 := Memref.whole cc0_stg1_0
abbrev oM : Memref sig .tc .vmem S512x2048 .f32 := Memref.whole cc0_stg2_0

/-- The travelling blocks of direction `b`: row 0 is sent first, row `h + 1` is where hop `h` lands. -/
abbrev cB : Bool → Ref sig .tc := fun | false => cc0_scratch0 | true => cc0_scratch1
/-- The products kept for direction `b`, row `h` added after hop `h`. -/
abbrev pB : Bool → Ref sig .tc := fun | false => cc0_scratch2 | true => cc0_scratch3

abbrev cM : Bool → Memref sig .tc .vmem S4x512x1024 .bf16
  | false => Memref.whole cc0_scratch0 | true => Memref.whole cc0_scratch1
abbrev pM : Bool → Memref sig .tc .vmem S3x512x1024 .f32
  | false => Memref.whole cc0_scratch2 | true => Memref.whole cc0_scratch3

theorem cM_whole : ∀ b, (cM b).IsWhole
  | false => Memref.isWhole_whole _ | true => Memref.isWhole_whole _
theorem pM_whole : ∀ b, (pM b).IsWhole
  | false => Memref.isWhole_whole _ | true => Memref.isWhole_whole _

/-- The semaphores of direction `b`'s sends and receives, one for each hop and half. -/
abbrev sndA : Bool → DmaSems sig S3x2 := fun | false => cc0_scratch4 | true => cc0_scratch6
abbrev rcvA : Bool → DmaSems sig S3x2 := fun | false => cc0_scratch5 | true => cc0_scratch7

theorem cell_inb (h : Fin 3) (s : Fin 2) : ∀ a, (![h.val, s.val] : Fin 2 → ℕ) a + S1x1.size a ≤ S3x2.size a := by
  revert h s; decide
def sndS (b : Bool) (h : Fin 3) (s : Fin 2) : DmaSems sig S_ :=
  ((sndA b).slice (Rect.unit (s := S3x2) ![h.val, s.val] S1x1.size (cell_inb h s))).squeeze S_ squeezes_S1x1_S_
def rcvS (b : Bool) (h : Fin 3) (s : Fin 2) : DmaSems sig S_ :=
  ((rcvA b).slice (Rect.unit (s := S3x2) ![h.val, s.val] S1x1.size (cell_inb h s))).squeeze S_ squeezes_S1x1_S_

/-! ## The rectangles -/

theorem slot_inb (k : Fin 4) (s : Fin 2) : ∀ a, (![k.val, 256 * s.val, 0] : Fin 3 → ℕ) a + S1x256x1024.size a ≤ S4x512x1024.size a := by
  revert k s; decide
/-- Half `s` of row `k` of a travelling buffer: what one copy moves. -/
def slotR (k : Fin 4) (s : Fin 2) : Rect S4x512x1024 := Rect.unit (s := S4x512x1024) ![k.val, 256 * s.val, 0] S1x256x1024.size (slot_inb k s)

theorem slot_words (k : Fin 4) (s : Fin 2) : (slotR k s).WholeWords (EltTy.packing .bf16) := by
  match k, s with
  | 0, 0 => exact wordsbf16_S4x512x1024_S1x256x1024_0_0_0
  | 0, 1 => exact wordsbf16_S4x512x1024_S1x256x1024_0_256_0
  | 1, 0 => exact wordsbf16_S4x512x1024_S1x256x1024_1_0_0
  | 1, 1 => exact wordsbf16_S4x512x1024_S1x256x1024_1_256_0
  | 2, 0 => exact wordsbf16_S4x512x1024_S1x256x1024_2_0_0
  | 2, 1 => exact wordsbf16_S4x512x1024_S1x256x1024_2_256_0
  | 3, 0 => exact wordsbf16_S4x512x1024_S1x256x1024_3_0_0
  | 3, 1 => exact wordsbf16_S4x512x1024_S1x256x1024_3_256_0

theorem slot_packed (h s : Fin 2) : (slotR h.succ.castSucc s).PackedRows (EltTy.packing .bf16) := by
  match h, s with
  | 0, 0 => exact packedbf16_S4x512x1024_S1x256x1024_1_0_0
  | 0, 1 => exact packedbf16_S4x512x1024_S1x256x1024_1_256_0
  | 1, 0 => exact packedbf16_S4x512x1024_S1x256x1024_2_0_0
  | 1, 1 => exact packedbf16_S4x512x1024_S1x256x1024_2_256_0

/-- Row 0 of a travelling buffer. -/
def headR : Rect S4x512x1024 := Rect.unit (s := S4x512x1024) ![0, 0, 0] S1x512x1024.size inb_S4x512x1024_S1x512x1024_0_0_0

theorem keep_inb (h : Fin 3) : ∀ a, (![h.val, 0, 0] : Fin 3 → ℕ) a + S1x512x1024.size a ≤ S3x512x1024.size a := by
  revert h; decide
/-- Row `h` of the products kept. -/
def keepR (h : Fin 3) : Rect S3x512x1024 := Rect.unit (s := S3x512x1024) ![h.val, 0, 0] S1x512x1024.size (keep_inb h)

theorem half_inb (h : Fin 3) (s : Fin 2) : ∀ a, (![h.val, 256 * s.val, 0] : Fin 3 → ℕ) a + S1x256x1024.size a ≤ S3x512x1024.size a := by
  revert h s; decide
/-- Half `s` of row `h` of the products kept. -/
def halfR (h : Fin 3) (s : Fin 2) : Rect S3x512x1024 := Rect.unit (s := S3x512x1024) ![h.val, 256 * s.val, 0] S1x256x1024.size (half_inb h s)

/-- The column at which direction `b`'s half of the result begins. -/
abbrev col : Bool → ℕ := fun | false => 0 | true => 1024

theorem quad_inb : ∀ (b : Bool) (s : Fin 2), ∀ a, (![256 * s.val, col b] : Fin 2 → ℕ) a + S256x1024.size a ≤ S512x2048.size a := by
  decide
/-- The quarter of the result that direction `b`'s half `s` fills. -/
def quadR (b : Bool) (s : Fin 2) : Rect S512x2048 := Rect.unit (s := S512x2048) ![256 * s.val, col b] S256x1024.size (quad_inb b s)

theorem side_inb : ∀ b : Bool, ∀ a, (![0, col b] : Fin 2 → ℕ) a + S512x1024.size a ≤ S512x2048.size a := by decide
/-- The columns of the weights that direction `b` multiplies by. -/
def sideR (b : Bool) : Rect S512x2048 := Rect.unit (s := S512x2048) ![0, col b] S512x1024.size (side_inb b)

/-- A block of 512 rows of the left operand, at the offsets the kernel computes. -/
def rowsR (off : Fin 2 → ℕ) (hoff : ∀ a, off a + S512x512.size a ≤ S2048x512.size a) : Rect S2048x512 :=
  Rect.unit (s := S2048x512) off S512x512.size hoff

/-- Slot `(k, s)` as the flat memref a copy takes. -/
def slotM (b : Bool) (k : Fin 4) (s : Fin 2) : Memref sig .tc .vmem S256x1024 .bf16 :=
  ((cM b).slice (slotR k s) (fun _ => rfl)).squeeze S256x1024 squeezes_S1x256x1024_S256x1024

theorem slotM_words (b : Bool) (k : Fin 4) (s : Fin 2) : (slotM b k s).view.WordExact :=
  ((cM_whole b).wordExact_slice rfl _ (slot_words k s)).reshape _ _

/-! ## What is stored -/

/-- The first product of a direction, rounded to what travels. -/
def headPay (x : Vec F S512x512 .bf16) (w : Vec F S512x1024 .bf16) : FVec F S1x512x1024 .bf16 := k0_pay1 x w
/-- A product kept. -/
def keepPay (x : Vec F S512x512 .bf16) (w : Vec F S512x1024 .bf16) : FVec F S1x512x1024 .f32 := k0_pay4 x w
/-- What arrived plus the product kept, rounded to what travels. -/
def hopPay (p : Vec F S1x256x1024 .f32) (a : Vec F S1x256x1024 .bf16) : FVec F S1x256x1024 .bf16 := k0_pay11 p a
/-- The last sum through the epilogue. -/
def lastPay (p : Vec F S1x256x1024 .f32) (a : Vec F S1x256x1024 .bf16) : FVec F S256x1024 .f32 := k0_pay19 p a

/-! ## The steps -/

/-- Programs of a TensorCore of this kernel. -/
abbrev PG (F : FTy → Type) : Type → Type 1 := Prog (TpuEff nD τ sig (Elt F) Λ₀ .tc)

/-- The product of a block of rows and direction `b`'s columns, stored in row 0. -/
def headP (b : Bool) (off : Fin 2 → ℕ) (hoff : ∀ a, off a + S512x512.size a ≤ S2048x512.size a) : PG F PUnit := do
  let x : Vec F S512x512 .bf16 ← Prog.lift (.load xM (rowsR off hoff).toLoadRect (View.loadsAt_vmem h_S512x512))
  let w : Vec F S512x1024 .bf16 ← Prog.lift (.load wM (sideR b).toLoadRect (View.loadsAt_vmem h_S512x1024))
  let _ : Vec F S1x512x1024 .bf16 ← Prog.lift (.load (cM b) headR.toLoadRect (View.loadsAt_vmem h_S1x512x1024))
  Prog.lift (.store (cM b) headR (headPay x w) Finset.univ
    (View.stores_vmem h_S1x512x1024 ((cM_whole b).storeExact_slice rfl _ packedbf16_S4x512x1024_S1x512x1024_0_0_0) (fun _ => rfl)) (.inl rfl))

/-- The product of a block of rows and direction `b`'s columns, kept in row `h`. -/
def keepP (b : Bool) (h : Fin 3) (off : Fin 2 → ℕ) (hoff : ∀ a, off a + S512x512.size a ≤ S2048x512.size a) : PG F PUnit := do
  let x : Vec F S512x512 .bf16 ← Prog.lift (.load xM (rowsR off hoff).toLoadRect (View.loadsAt_vmem h_S512x512))
  let w : Vec F S512x1024 .bf16 ← Prog.lift (.load wM (sideR b).toLoadRect (View.loadsAt_vmem h_S512x1024))
  let _ : Vec F S1x512x1024 .f32 ← Prog.lift (.load (pM b) (keepR h).toLoadRect (View.loadsAt_vmem h_S1x512x1024))
  Prog.lift (.store (pM b) (keepR h) (keepPay x w) Finset.univ (View.stores_vmem_bits_univ h_S1x512x1024 rfl) (.inl rfl))

/-- Copy half `s` of row `h` to row `h + 1` of device `n`. -/
def sendP (b : Bool) (h : Fin 3) (s : Fin 2) (n : Dev nD) : PG F PUnit :=
  Prog.lift (.enqueueDma (slotM b h.castSucc s) (.remote (Dev.tc n) (slotM b h.succ s) (.dma (sndS b h s).sem)) (.dma (rcvS b h s).sem)
    (slotM_words b h.castSucc s) (slotM_words b h.succ s) ⟨⟨rfl, Or.inl rfl⟩, trivial⟩)

/-- Wait for the copy of hop `h`, half `s` to arrive. -/
def recvP (b : Bool) (h : Fin 3) (s : Fin 2) : PG F PUnit :=
  Prog.lift (.waitDma2 (rcvS b h s).sem (slotM b h.castSucc s) (slotM b h.succ s) (slotM_words b h.castSucc s) (slotM_words b h.succ s))

/-- Wait for the own copy of hop `h`, half `s` to have left. -/
def sentP (b : Bool) (h : Fin 3) (s : Fin 2) : PG F PUnit :=
  Prog.lift (.waitDma2 (sndS b h s).sem (slotM b h.succ s) (slotM b h.castSucc s) (slotM_words b h.succ s) (slotM_words b h.castSucc s))

/-- Add the kept product to what arrived in half `s` of row `h + 1`, in place. -/
def addP (b : Bool) (h s : Fin 2) : PG F PUnit := do
  let p : Vec F S1x256x1024 .f32 ← Prog.lift (.load (pM b) (halfR h.castSucc s).toLoadRect (View.loadsAt_vmem h_S1x256x1024))
  let a : Vec F S1x256x1024 .bf16 ← Prog.lift (.load (cM b) (slotR h.succ.castSucc s).toLoadRect (View.loadsAt_vmem h_S1x256x1024))
  let _ : Vec F S1x256x1024 .bf16 ← Prog.lift (.load (cM b) (slotR h.succ.castSucc s).toLoadRect (View.loadsAt_vmem h_S1x256x1024))
  Prog.lift (.store (cM b) (slotR h.succ.castSucc s) (hopPay p a) Finset.univ
    (View.stores_vmem h_S1x256x1024 ((cM_whole b).storeExact_slice rfl _ (slot_packed h s)) (fun _ => rfl)) (.inl rfl))

/-- One hop: receive, add, send on. -/
def hopP (b : Bool) (h s : Fin 2) (n : Dev nD) : PG F PUnit := do
  recvP b h.castSucc s
  addP b h s
  sendP b h.succ s n

/-- Add the last kept product and store the result's quarter. -/
def outP (b : Bool) (s : Fin 2) : PG F PUnit := do
  let p : Vec F S1x256x1024 .f32 ← Prog.lift (.load (pM b) (halfR 2 s).toLoadRect (View.loadsAt_vmem h_S1x256x1024))
  let a : Vec F S1x256x1024 .bf16 ← Prog.lift (.load (cM b) (slotR 3 s).toLoadRect (View.loadsAt_vmem h_S1x256x1024))
  let _ : Vec F S256x1024 .f32 ← Prog.lift (.load oM (quadR b s).toLoadRect (View.loadsAt_vmem h_S256x1024))
  Prog.lift (.store oM (quadR b s) (lastPay p a) Finset.univ (View.stores_vmem_bits_univ h_S256x1024 rfl) (.inl rfl))

/-- The last hop: receive, add, store the result's quarter. -/
def lastP (b : Bool) (s : Fin 2) : PG F PUnit := do
  recvP b 2 s
  outP b s

abbrev barS : Sem sig := (SemArray.scalar (sig.barrier 0 rfl) : Sems sig S_).sem

/-- The whole body on device `d`. -/
def flatAt (d : Dev nD) : PG F PUnit := do
  semSignalWord (⟨k0_dev1 d, k0_dev1_lt d⟩ : Dev nD) barS 1#32
  semSignalWord (⟨k0_dev2 d, k0_dev2_lt d⟩ : Dev nD) barS 1#32
  semWaitWord barS 2#32
  headP false (k0_off1 d) (k0_off1_inb d)
  sendP false 0 0 ⟨k0_dev3 d, k0_dev3_lt d⟩
  sendP false 0 1 ⟨k0_dev4 d, k0_dev4_lt d⟩
  headP true (k0_off2 d 1#32) (k0_off2_inb d 1)
  sendP true 0 0 ⟨k0_dev5 d, k0_dev5_lt d⟩
  sendP true 0 1 ⟨k0_dev6 d, k0_dev6_lt d⟩
  keepP false 0 (k0_off2 d 2#32) (k0_off2_inb d 2)
  keepP true 0 (k0_off3 d 0#32) (k0_off3_inb d 0)
  keepP false 1 (k0_off2 d 1#32) (k0_off2_inb d 1)
  keepP true 1 (k0_off3 d 1#32) (k0_off3_inb d 1)
  keepP false 2 (k0_off2 d 0#32) (k0_off2_inb d 0)
  keepP true 2 (k0_off3 d 2#32) (k0_off3_inb d 2)
  hopP false 0 0 ⟨k0_dev7 d, k0_dev7_lt d⟩
  hopP true 0 0 ⟨k0_dev8 d, k0_dev8_lt d⟩
  hopP false 0 1 ⟨k0_dev9 d, k0_dev9_lt d⟩
  hopP true 0 1 ⟨k0_dev10 d, k0_dev10_lt d⟩
  hopP false 1 0 ⟨k0_dev11 d, k0_dev11_lt d⟩
  hopP true 1 0 ⟨k0_dev12 d, k0_dev12_lt d⟩
  hopP false 1 1 ⟨k0_dev13 d, k0_dev13_lt d⟩
  hopP true 1 1 ⟨k0_dev14 d, k0_dev14_lt d⟩
  lastP false 0
  lastP true 0
  lastP false 1
  lastP true 1
  sentP false 0 0
  sentP true 0 0
  sentP false 0 1
  sentP true 0 1
  sentP false 1 0
  sentP true 1 0
  sentP false 1 1
  sentP true 1 1
  sentP false 2 0
  sentP true 2 0
  sentP false 2 1
  sentP true 2 1

/-- The printed body at the launch's buffers. -/
abbrev bodyP : PG F PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

set_option maxRecDepth 65536 in
/-- The printed body is the flat sequence. -/
theorem body_flat : (bodyP : PG F PUnit) = (Prog.lift .deviceId >>= flatAt) := by
  rfl

end Cert.RingMatmul

end
-- ==== Proof.Parts.lean ====
/-
# Holding one rectangle of a buffer

A travelling buffer is held in pieces, because its rows are given away and come back one half row at a time.
`part c m r Y` says that device `c` holds the rectangle `r` of the memref `m`, and that `m` reads there what the
function `Y` of the whole memref's index says. This module states what the steps of the body do to a part: a load
inside it, a store that fills it, cutting it in two and joining it again, cutting a whole buffer along a family of
rectangles, and what one copy between two flat slots leaves.
-/
module

public import proofs.«01_k».proof.Proof.Program
public import proofs.«01_k».proof.Proof.Gen.KernelIdeal.Launch
public import Idealize.ShloMosaic.Lib.Memref
public import Idealize.ShloMosaic.Lib.ViewIndex
public import Idealize.ShloMosaic.Lib.Writes
public import Idealize.ShloMosaic.Lib.Rounds
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The copies' rounds beside the staging pipeline's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable {sh : Shape} {e : EltTy} (c : Dev nD) (m : Memref sig .tc .vmem sh e)

/-- Device `c` holds the rectangle `r` of `m`, reading `Y` on it. -/
def part (r : Rect sh) (Y : sh.Idx → Elt F e) : sProp 𝕄 :=
  iprop(∃ f : Buf (Elt F) (m.view.loc (c : Thread nD τ)), ⌜∀ j, m.view.read (Elt F) f (r.emb j) = Y (r.emb j)⌝
    ∗ (m.view.loc (c : Thread nD τ) ↦[(m.view.slice r).set]{fullShare} f))

/-- The same with contents unsaid. -/
def room (r : Rect sh) : sProp 𝕄 :=
  iprop(∃ f : Buf (Elt F) (m.view.loc (c : Thread nD τ)), m.view.loc (c : Thread nD τ) ↦[(m.view.slice r).set]{fullShare} f)

omit [FloatOps F] in
instance part_storable (r : Rect sh) (Y : sh.Idx → Elt F e) : BI.Storable (upEmb : UEmb _ 𝕄) (part c m r Y) := by
  unfold part; infer_instance
omit [FloatOps F] in
instance room_storable (r : Rect sh) : BI.Storable (upEmb : UEmb _ 𝕄) (room (F := F) c m r) := by
  unfold room; infer_instance

omit [FloatOps F] in
/-- A part's contents can be forgotten. -/
theorem part_room (r : Rect sh) (Y : sh.Idx → Elt F e) : part c m r Y ⊢ room c m r := by
  unfold part room
  iintro ⟨%f, -, H⟩; iexists f; iexact H

omit [FloatOps F] in
/-- Room is a part at what it happens to hold. -/
theorem room_part (r : Rect sh) : room c m r ⊢ iprop(∃ Y : sh.Idx → Elt F e, part c m r Y) := by
  unfold part room
  iintro ⟨%f, H⟩; iexists (m.view.read (Elt F) f); iexists f
  isplitr
  · ipureintro; intro j; rfl
  iexact H

omit [FloatOps F] in
/-- A part says its contents on its rectangle only. -/
theorem part_congr {r : Rect sh} {Y Y' : sh.Idx → Elt F e} (h : ∀ j, Y (r.emb j) = Y' (r.emb j)) : part c m r Y ⊢ part c m r Y' := by
  unfold part
  iintro ⟨%f, %hf, H⟩; iexists f
  isplitr
  · ipureintro; intro j; rw [hf j, h j]
  iexact H

omit [FloatOps F] in
theorem mem_rect {r : Rect sh} {i : sh.Idx} (h : i ∈ r.set) : ∃ j, r.emb j = i := by
  rw [← Rect.map_emb_univ, Finset.mem_map] at h
  obtain ⟨j, -, rfl⟩ := h
  exact ⟨j, rfl⟩

omit [FloatOps F] in
theorem emb_mem (r : Rect sh) (j : r.shape.Idx) : r.emb j ∈ r.set := by
  rw [← Rect.map_emb_univ]; exact Finset.mem_map_of_mem _ (Finset.mem_univ j)

/-! ## Loads and stores -/

/-- A load inside a part reads the part's function, and leaves the part. -/
theorem part_load {r r' : Rect sh} {Y : sh.Idx → Elt F e} (hr : r'.set ⊆ r.set) {hl : m.view.LoadsAt r'.toLoadRect} {α : Type} {Q : α → sProp 𝕄}
    {k : (r'.shape.Idx → Elt F e) → Prog (TpuEff nD τ sig (Elt F) Λ₀ .tc) α} :
    part c m r Y ⊢ iprop((part c m r Y -∗ wp frame (wpE (defs₀ (F := F)) 𝒱₀ (c : Thread nD τ) none) Set.univ (k fun j => Y (r'.emb j)) Q)
      -∗ wp frame (wpE (defs₀ (F := F)) 𝒱₀ (c : Thread nD τ) none) Set.univ (.op (.load m r'.toLoadRect hl) k) Q) := by
  unfold part
  iintro ⟨%f, %hf, H⟩ Hk
  iapply (wp_load 𝒱₀ (c : Thread nD τ) none Set.univ (m := m) (r := r'.toLoadRect)
    (by rw [View.set_slice]; exact Finset.map_subset_map.mpr hr)) $$ H
  iintro H
  rw [show m.view.readAt (Elt F) r'.toLoadRect f = fun j => Y (r'.emb j) from funext fun j => by
    obtain ⟨j', hj'⟩ := mem_rect (hr (emb_mem r' j))
    have h := hf j'
    rw [hj'] at h
    exact h]
  iapply Hk
  iexists f
  isplitr
  · ipureintro; exact hf
  iexact H

/-- A load that fills a room reads something, and leaves the room. -/
theorem room_load {r : Rect sh} {hl : m.view.LoadsAt r.toLoadRect} {α : Type} {Q : α → sProp 𝕄}
    {k : (r.shape.Idx → Elt F e) → Prog (TpuEff nD τ sig (Elt F) Λ₀ .tc) α} :
    room c m r ⊢ iprop((room c m r -∗ ∀ v, wp frame (wpE (defs₀ (F := F)) 𝒱₀ (c : Thread nD τ) none) Set.univ (k v) Q)
      -∗ wp frame (wpE (defs₀ (F := F)) 𝒱₀ (c : Thread nD τ) none) Set.univ (.op (.load m r.toLoadRect hl) k) Q) := by
  unfold room
  iintro ⟨%f, H⟩ Hk
  iapply (wp_load 𝒱₀ (c : Thread nD τ) none Set.univ (m := m) (r := r.toLoadRect) (by rw [View.set_slice]; exact Finset.Subset.refl _)) $$ H
  iintro H
  ihave Hk := Hk $$ [H]
  · iexists f; iexact H
  iapply Hk

/-- A store that fills a room leaves a part at any function the stored value agrees with. -/
theorem room_store {r : Rect sh} {w : r.shape.Idx → Elt F e} {Y : sh.Idx → Elt F e} (hY : ∀ j, w j = Y (r.emb j))
    {hx : (m.access r).Stores Finset.univ} {hm : (Finset.univ : Finset r.shape.Idx) = Finset.univ ∨ ∀ a, r.stride a = 1} {α : Type} {Q : α → sProp 𝕄}
    {k : PUnit → Prog (TpuEff nD τ sig (Elt F) Λ₀ .tc) α} :
    room c m r ⊢ iprop((part c m r Y -∗ wp frame (wpE (defs₀ (F := F)) 𝒱₀ (c : Thread nD τ) none) Set.univ (k ⟨⟩) Q)
      -∗ wp frame (wpE (defs₀ (F := F)) 𝒱₀ (c : Thread nD τ) none) Set.univ (.op (.store m r w Finset.univ hx hm) k) Q) := by
  unfold part room
  iintro ⟨%f, H⟩ Hk
  iapply (wp_store 𝒱₀ (c : Thread nD τ) none Set.univ (m := m) (r := r) (Mk := Finset.univ) (by rw [View.setOn_univ])) $$ H
  iintro H
  iapply Hk
  iexists ((m.access r).write (Elt F) f w Finset.univ)
  isplitr
  · ipureintro; intro j
    exact (View.read_slice_write_emb (v := m.view) r f w (Finset.mem_univ j)).trans (hY j)
  iexact H

/-! ## Cutting and joining -/

omit [FloatOps F] in
/-- A part is the ownership of its rectangle's slice. -/
theorem part_owns (r : Rect sh) (hr : ∀ a, r.stride a = 1) (Y : sh.Idx → Elt F e) :
    part c m r Y ⊣⊢ owns (c : Thread nD τ) (m.slice r hr) fullShare fun j => Y (r.emb j) := by
  constructor
  · unfold part owns
    iintro ⟨%f, %hf, H⟩; iexists f
    isplitr
    · ipureintro; exact funext hf
    iexact H
  · unfold part owns
    iintro ⟨%f, %hf, H⟩; iexists f
    isplitr
    · ipureintro; exact fun j => congrFun hf j
    iexact H

omit [FloatOps F] in
theorem slice_union {r r₁ r₂ : Rect sh} (hu : r.set = r₁.set ∪ r₂.set) : (m.view.slice r).set = (m.view.slice r₁).set ∪ (m.view.slice r₂).set := by
  rw [View.set_slice, View.set_slice, View.set_slice, ← Finset.map_union]
  exact congrArg (Finset.map m.view.emb) hu

omit [FloatOps F] in
/-- A part over two disjoint rectangles is a part over each, at the same function. -/
theorem part_cut {r r₁ r₂ : Rect sh} (hu : r.set = r₁.set ∪ r₂.set) (hd : Disjoint r₁.set r₂.set) {Y : sh.Idx → Elt F e} :
    part c m r Y ⊢ iprop(part c m r₁ Y ∗ part c m r₂ Y) := by
  unfold part
  iintro ⟨%f, %hf, H⟩
  rw [slice_union m hu]
  ihave H' := (pointsTo_union (ℓ := m.view.loc (c : Thread nD τ)) (View.disjoint_slice (v := m.view) hd)).1 $$ H
  icases H' with ⟨H₁, H₂⟩
  have hf' (i : sh.Idx) (hi : i ∈ r.set) : m.view.read (Elt F) f i = Y i := by
    obtain ⟨j, rfl⟩ := mem_rect hi; exact hf j
  isplitl [H₁]
  · iexists f; isplitr
    · ipureintro; intro j; exact hf' _ (by rw [hu]; exact Finset.mem_union_left _ (emb_mem r₁ j))
    iexact H₁
  · iexists f; isplitr
    · ipureintro; intro j; exact hf' _ (by rw [hu]; exact Finset.mem_union_right _ (emb_mem r₂ j))
    iexact H₂

omit [FloatOps F] in
/-- Room over two disjoint rectangles joins. -/
theorem room_join {r r₁ r₂ : Rect sh} (hu : r.set = r₁.set ∪ r₂.set) (hd : Disjoint r₁.set r₂.set) :
    iprop(room (F := F) c m r₁ ∗ room c m r₂) ⊢ room (F := F) c m r := by
  unfold room
  iintro ⟨⟨%f, H₁⟩, ⟨%g, H₂⟩⟩
  ihave H := (pointsTo_join (ℓ := m.view.loc (c : Thread nD τ)) (View.disjoint_slice (v := m.view) hd)) $$ [H₁ H₂]
  · isplitl [H₁] <;> iassumption
  rw [slice_union m hu]
  iexists _; iexact H

section Family
variable {T : Type} [Fintype T] [DecidableEq T] (rs : T → Rect sh) (hr : ∀ t a, (rs t).stride a = 1)
  (hd : ∀ t t', t ≠ t' → Disjoint (rs t).set (rs t').set)
  (hc : (Finset.univ : Finset T).biUnion (fun t => (rs t).set) = Finset.univ)
include hr hd hc

omit [FloatOps F] [DecidableEq T] in
/-- A memref held whole is a part on each rectangle of a disjoint cover. -/
theorem whole_parts (Y : sh.Idx → Elt F e) :
    owns (c : Thread nD τ) m fullShare Y ⊢ bigSep Finset.univ fun t => part c m (rs t) Y :=
  (owns_rects (c : Thread nD τ) m fullShare rs hr hd hc Y).trans (bigSep_mono fun t _ => (part_owns c m (rs t) (hr t) Y).2)

/-- Parts of one function on a disjoint cover are the memref held whole at it. -/
theorem parts_whole (Y : sh.Idx → Elt F e) :
    (bigSep Finset.univ fun t => part c m (rs t) Y) ⊢ owns (c : Thread nD τ) m fullShare Y :=
  (bigSep_mono fun t _ => (part_owns c m (rs t) (hr t) Y).1).trans (owns_of_rects (c : Thread nD τ) m fullShare rs hr hd hc Y)

/-- Room on each rectangle of a disjoint cover is the memref held whole at something. -/
theorem rooms_whole : (bigSep Finset.univ fun t => room (F := F) c m (rs t))
    ⊢ iprop(∃ Y : sh.Idx → Elt F e, owns (c : Thread nD τ) m fullShare Y) := by
  refine (bigSep_mono fun t _ => room_part c m (rs t)).trans ((bigSep_exists_pi Finset.univ fun t Y => part c m (rs t) Y).trans ?_)
  refine exists_elim fun Ys => ?_
  have hpick (i : sh.Idx) : ∃ t, i ∈ (rs t).set := by
    obtain ⟨t, -, h⟩ := Finset.mem_biUnion.mp (hc.symm ▸ Finset.mem_univ i); exact ⟨t, h⟩
  choose pick hp using hpick
  refine (BIBase.Entails.trans ?_ (parts_whole c m rs hr hd hc fun i => Ys (pick i) i)).trans (exists_intro (fun i => Ys (pick i) i))
  refine bigSep_mono fun t _ => part_congr c m (r := rs t) (Y := Ys t) (Y' := fun i => Ys (pick i) i) fun j => by
    have : pick ((rs t).emb j) = t := by
      by_contra hne
      exact Finset.disjoint_left.mp (hd _ _ hne) (hp _) (emb_mem (rs t) j)
    show Ys t _ = Ys (pick _) _
    rw [this]

end Family

/-! ## Flat slots -/

omit [FloatOps F] in
/-- A flat slot's elements are its rectangle's. -/
theorem slot_set (b : Bool) (k : Fin 4) (s : Fin 2) : (slotM b k s).view.set = ((cM b).view.slice (slotR k s)).set :=
  View.set_reshape _ _

omit [FloatOps F] in
/-- What a copy from one flat slot leaves, read at another: the source's contents at the same place in its rectangle. -/
theorem slot_copy (b : Bool) (k k' : Fin 4) (s s' : Fin 2) (f g : (cM b).view.ty.Contents (Elt F)) (j : (slotR k' s').shape.Idx) :
    (cM b).view.read (Elt F) ((slotM b k' s').view.write (Elt F) g ((slotM b k s).view.read (Elt F) f) Finset.univ) ((slotR k' s').emb j)
      = (cM b).view.read (Elt F) f ((slotR k s).emb j) := by
  have h := View.write_reshape_univ (Val := Elt F) (v := (cM b).view.slice (slotR k' s')) (s' := S256x1024) squeezes_S1x256x1024_S256x1024.numel_eq g
    ((slotM b k s).view.read (Elt F) f)
  refine (congrArg (fun z => (cM b).view.read (Elt F) z ((slotR k' s').emb j)) h).trans ?_
  refine (View.read_slice_write_emb (v := (cM b).view) (slotR k' s') g _ (Finset.mem_univ j)).trans ?_
  show (cM b).view.read (Elt F) f ((slotR k s).emb (Shape.reshapeEquiv _ ((Shape.reshapeEquiv _).symm j))) = _
  exact congrArg (fun z => (cM b).view.read (Elt F) f ((slotR k s).emb z)) (Equiv.apply_symm_apply _ j)

end Cert.RingMatmul

end
-- ==== Proof.Contents.lean ====
/-
# The ring and what the buffers hold

Two directions run around the same four devices. Direction `false` hands a block to the next device, direction `true`
to the one before. Each direction carries one half of the result's columns; a block starts as one device's product, and
at every hop the receiver adds its own product for the same rows and rounds the sum to what travels.

This module names the devices and row blocks and gives the contents of every buffer as a function of the devices'
operands, with the five facts by which the kernel's stores and copies produce those contents.
-/
module

public import proofs.«01_k».proof.Proof.Program
public import Idealize.ShloMosaic.Lib.Pipeline.Value

@[expose] public section

noncomputable section

namespace Cert.RingMatmul

open Cert.KernelIdeal Cert.KernelIdeal.Gen
open Idealize.ShloMosaic Idealize.ShloMosaic.TcCoe
open Idealize.SL.Sem

variable {F : FTy → Type} [FloatOps F]

/-! ## The ring -/

set_option backward.proofsInPublic true in
/-- Whom device `c` hands direction `b`'s block to. -/
def fwd : Bool → Dev nD → Dev nD
  | false, c => ⟨(c.val + 1) % 4, Nat.mod_lt _ (by decide)⟩
  | true, c => ⟨(c.val + 3) % 4, Nat.mod_lt _ (by decide)⟩
/-- Whom it gets direction `b`'s block from. -/
abbrev bwd (b : Bool) (c : Dev nD) : Dev nD := fwd (!b) c

theorem bwd_fwd (b : Bool) (c : Dev nD) : bwd b (fwd b c) = c := by revert b c; decide
theorem fwd_bwd (b : Bool) (c : Dev nD) : fwd b (bwd b c) = c := by revert b c; decide
theorem fwd_inj (b : Bool) (c c' : Dev nD) : fwd b c = fwd b c' ↔ c = c' := by revert b c c'; decide

/-- Each direction is a rotation of the devices. -/
def turn (b : Bool) : Dev nD ≃ Dev nD := ⟨fwd b, bwd b, bwd_fwd b, fwd_bwd b⟩

theorem dev1_eq (c : Dev nD) : (⟨k0_dev1 c, k0_dev1_lt c⟩ : Dev nD) = bwd false c := by revert c; decide +kernel
theorem dev2_eq (c : Dev nD) : (⟨k0_dev2 c, k0_dev2_lt c⟩ : Dev nD) = bwd true c := by revert c; decide +kernel
theorem dev3_eq (c : Dev nD) : (⟨k0_dev3 c, k0_dev3_lt c⟩ : Dev nD) = fwd false c := by revert c; decide +kernel
theorem dev4_eq (c : Dev nD) : (⟨k0_dev4 c, k0_dev4_lt c⟩ : Dev nD) = fwd false c := by revert c; decide +kernel
theorem dev5_eq (c : Dev nD) : (⟨k0_dev5 c, k0_dev5_lt c⟩ : Dev nD) = fwd true c := by revert c; decide +kernel
theorem dev6_eq (c : Dev nD) : (⟨k0_dev6 c, k0_dev6_lt c⟩ : Dev nD) = fwd true c := by revert c; decide +kernel
theorem dev7_eq (c : Dev nD) : (⟨k0_dev7 c, k0_dev7_lt c⟩ : Dev nD) = fwd false c := by revert c; decide +kernel
theorem dev8_eq (c : Dev nD) : (⟨k0_dev8 c, k0_dev8_lt c⟩ : Dev nD) = fwd true c := by revert c; decide +kernel
theorem dev9_eq (c : Dev nD) : (⟨k0_dev9 c, k0_dev9_lt c⟩ : Dev nD) = fwd false c := by revert c; decide +kernel
theorem dev10_eq (c : Dev nD) : (⟨k0_dev10 c, k0_dev10_lt c⟩ : Dev nD) = fwd true c := by revert c; decide +kernel
theorem dev11_eq (c : Dev nD) : (⟨k0_dev11 c, k0_dev11_lt c⟩ : Dev nD) = fwd false c := by revert c; decide +kernel
theorem dev12_eq (c : Dev nD) : (⟨k0_dev12 c, k0_dev12_lt c⟩ : Dev nD) = fwd true c := by revert c; decide +kernel
theorem dev13_eq (c : Dev nD) : (⟨k0_dev13 c, k0_dev13_lt c⟩ : Dev nD) = fwd false c := by revert c; decide +kernel
theorem dev14_eq (c : Dev nD) : (⟨k0_dev14 c, k0_dev14_lt c⟩ : Dev nD) = fwd true c := by revert c; decide +kernel

/-! ## Row blocks -/

set_option backward.proofsInPublic true in
/-- The row block device `c` multiplies for direction `b` at stage `k` (0: what it sends first; `h + 1`: what it adds after hop `h`). -/
def rowOf : Bool → ℕ → Dev nD → Fin 4
  | false, k, c => ⟨(c.val + 3 + 3 * k) % 4, Nat.mod_lt _ (by decide)⟩
  | true, k, c => ⟨(c.val + 1 + k) % 4, Nat.mod_lt _ (by decide)⟩

/-- A block is the same rows at the sender, one stage before, as at the receiver. -/
theorem rowOf_bwd (b : Bool) (k : ℕ) (c : Dev nD) : rowOf b k (bwd b c) = rowOf b (k + 1) c := by
  cases b <;> exact Fin.ext (by simp only [rowOf, bwd, fwd, Bool.not_false, Bool.not_true]; omega)

/-- After the last hop it is the receiver's own row block. -/
theorem rowOf_last (b : Bool) (c : Dev nD) : rowOf b 3 c = c := by revert b c; decide

/-- Where row block `r` begins. -/
abbrev rowOff (r : Fin 4) : Fin 2 → ℕ := ![512 * r.val, 0]
theorem rowOff_inb (r : Fin 4) : ∀ a, rowOff r a + S512x512.size a ≤ S2048x512.size a := by revert r; decide

theorem off_head_false (c : Dev nD) : k0_off1 c = rowOff (rowOf false 0 c) := by revert c; decide +kernel
theorem off_head_true (c : Dev nD) : k0_off2 c 1#32 = rowOff (rowOf true 0 c) := by revert c; decide +kernel
theorem off_keep_false0 (c : Dev nD) : k0_off2 c 2#32 = rowOff (rowOf false 1 c) := by revert c; decide +kernel
theorem off_keep_false1 (c : Dev nD) : k0_off2 c 1#32 = rowOff (rowOf false 2 c) := by revert c; decide +kernel
theorem off_keep_false2 (c : Dev nD) : k0_off2 c 0#32 = rowOff (rowOf false 3 c) := by revert c; decide +kernel
theorem off_keep_true0 (c : Dev nD) : k0_off3 c 0#32 = rowOff (rowOf true 1 c) := by revert c; decide +kernel
theorem off_keep_true1 (c : Dev nD) : k0_off3 c 1#32 = rowOff (rowOf true 2 c) := by revert c; decide +kernel
theorem off_keep_true2 (c : Dev nD) : k0_off3 c 2#32 = rowOff (rowOf true 3 c) := by revert c; decide +kernel

/-! ## Contents -/

variable (X : Dev nD → Vec F S2048x512 .bf16) (W : Dev nD → Vec F S512x2048 .bf16)

/-- Row block `r` of device `c`'s left operand. -/
def rowsV (r : Fin 4) (c : Dev nD) : Vec F S512x512 .bf16 := fun j => X c ((rowsR (rowOff r) (rowOff_inb r)).emb j)
/-- Direction `b`'s columns of device `c`'s weights. -/
def sideV (b : Bool) (c : Dev nD) : Vec F S512x1024 .bf16 := fun j => W c ((sideR b).emb j)
/-- Device `c`'s product for direction `b` at stage `k`. -/
def prodV (b : Bool) (k : ℕ) (c : Dev nD) : FVec F S512x1024 .f32 := k0_pay5 (rowsV X (rowOf b k c) c) (sideV W b c)

/-- What device `c` sends in direction `b` at hop `k`. -/
def sentV (b : Bool) : ℕ → Dev nD → FVec F S512x1024 .bf16
  | 0, c => truncf .bf16 (prodV X W b 0 c) bitsLt_bf16_f32
  | k + 1, c => truncf .bf16 (addf (prodV X W b (k + 1) c) (extf .f32 (sentV b k (bwd b c)) bitsLt_bf16_f32)) bitsLt_bf16_f32
/-- Device `c`'s sum in direction `b` after the last hop, -/
def accV (b : Bool) (c : Dev nD) : FVec F S512x1024 .f32 := addf (prodV X W b 3 c) (extf .f32 (sentV X W b 2 (bwd b c)) bitsLt_bf16_f32)
/-- and through the epilogue. -/
def lastV (b : Bool) (c : Dev nD) : FVec F S512x1024 .f32 := mulf (accV X W b c) (logistic (accV X W b c))

/-- An index of a stack of blocks without the block's number. -/
abbrev inner3 (i : S3x512x1024.Idx) : S512x1024.Idx := fun a => i a.succ
abbrev inner4 (i : S4x512x1024.Idx) : S512x1024.Idx := fun a => i a.succ

/-- The kept products, row by row. -/
def PT (c : Dev nD) (b : Bool) : S3x512x1024.Idx → Elt F .f32 := fun i => prodV X W b ((i 0).val + 1) c (inner3 i)
/-- A travelling buffer where device `c` sends from it, -/
def SENT (c : Dev nD) (b : Bool) : S4x512x1024.Idx → Elt F .bf16 := fun i => sentV X W b (i 0).val c (inner4 i)
/-- and where a block has just arrived. -/
def ARR (c : Dev nD) (b : Bool) : S4x512x1024.Idx → Elt F .bf16 := fun i => sentV X W b ((i 0).val - 1) (bwd b c) (inner4 i)

/-- The result of device `c`: its left half from direction `false`, its right half from direction `true`. -/
def OUT (c : Dev nD) : S512x2048.Idx → Elt F .f32 := fun i =>
  if h : (i 1).val < 1024 then lastV X W false c (fun | 0 => ⟨(i 0).val, (i 0).isLt⟩ | 1 => ⟨(i 1).val, h⟩)
  else lastV X W true c (fun | 0 => ⟨(i 0).val, (i 0).isLt⟩ | 1 => ⟨(i 1).val - 1024, by have := (i 1).isLt; change (i 1).val < 2048 at this; show _ < 1024; omega⟩)

/-! ## The stores and copies produce them -/

theorem head_pay (b : Bool) (c : Dev nD) (j : headR.shape.Idx) :
    headPay (rowsV X (rowOf b 0 c) c) (sideV W b c) j = SENT X W c b (headR.emb j) := by
  have h0 : (headR.emb j 0).val = 0 := by
    rw [Rect.emb_apply]; have := (j 0).isLt; change (j 0).val < 1 at this; change 0 + 1 * (j 0).val = 0; omega
  have hi : inner4 (headR.emb j) = fun a : Fin 2 => j a.succ := by
    funext a; apply Fin.ext; show (headR.emb j a.succ).val = _
    rw [Rect.emb_apply]; match a with
    | 0 => show 0 + 1 * (j 1).val = (j 1).val; omega
    | 1 => show 0 + 1 * (j 2).val = (j 2).val; omega
  unfold SENT
  rw [hi, h0]
  exact shapeCast_addUnit_apply ![512, 1024] (sentV X W b 0 c) _ j

theorem keep_pay (b : Bool) (h : Fin 3) (c : Dev nD) (j : (keepR h).shape.Idx) :
    keepPay (rowsV X (rowOf b (h.val + 1) c) c) (sideV W b c) j = PT X W c b ((keepR h).emb j) := by
  have h0 : ((keepR h).emb j 0).val = h.val := by
    rw [Rect.emb_apply]; have := (j 0).isLt; change (j 0).val < 1 at this; change h.val + 1 * (j 0).val = h.val; omega
  have hi : inner3 ((keepR h).emb j) = fun a : Fin 2 => j a.succ := by
    funext a; apply Fin.ext; show ((keepR h).emb j a.succ).val = _
    rw [Rect.emb_apply]; match a with
    | 0 => show 0 + 1 * (j 1).val = (j 1).val; omega
    | 1 => show 0 + 1 * (j 2).val = (j 2).val; omega
  unfold PT
  rw [hi, h0]
  exact shapeCast_addUnit_apply ![512, 1024] (prodV X W b (h.val + 1) c) _ j

/-- The index of a 256-row half inside its block. -/
def inHalf (s : Fin 2) (j : S256x1024.Idx) : S512x1024.Idx := fun
  | 0 => ⟨256 * s.val + (j 0).val, by have := (j 0).isLt; change (j 0).val < 256 at this; show _ < 512; omega⟩
  | 1 => ⟨(j 1).val, (j 1).isLt⟩

theorem slot_row (k : Fin 4) (s : Fin 2) (j : (slotR k s).shape.Idx) : ((slotR k s).emb j 0).val = k.val := by
  rw [Rect.emb_apply]; have := (j 0).isLt; change (j 0).val < 1 at this; change k.val + 1 * (j 0).val = k.val; omega
theorem slot_inner (k : Fin 4) (s : Fin 2) (j : (slotR k s).shape.Idx) : inner4 ((slotR k s).emb j) = inHalf s fun a : Fin 2 => j a.succ := by
  funext a; apply Fin.ext; show ((slotR k s).emb j a.succ).val = _
  rw [Rect.emb_apply]; match a with
  | 0 => show 256 * s.val + 1 * (j 1).val = 256 * s.val + (j 1).val; omega
  | 1 => show 0 + 1 * (j 2).val = (j 2).val; omega
theorem half_row (h : Fin 3) (s : Fin 2) (j : (halfR h s).shape.Idx) : ((halfR h s).emb j 0).val = h.val := by
  rw [Rect.emb_apply]; have := (j 0).isLt; change (j 0).val < 1 at this; change h.val + 1 * (j 0).val = h.val; omega
theorem half_inner (h : Fin 3) (s : Fin 2) (j : (halfR h s).shape.Idx) : inner3 ((halfR h s).emb j) = inHalf s fun a : Fin 2 => j a.succ := by
  funext a; apply Fin.ext; show ((halfR h s).emb j a.succ).val = _
  rw [Rect.emb_apply]; match a with
  | 0 => show 256 * s.val + 1 * (j 1).val = 256 * s.val + (j 1).val; omega
  | 1 => show 0 + 1 * (j 2).val = (j 2).val; omega

theorem PT_half (b : Bool) (h : Fin 3) (s : Fin 2) (c : Dev nD) (j : (halfR h s).shape.Idx) :
    PT X W c b ((halfR h s).emb j) = prodV X W b (h.val + 1) c (inHalf s fun a : Fin 2 => j a.succ) := by
  unfold PT; rw [half_inner, half_row]
theorem SENT_slot (b : Bool) (k : Fin 4) (s : Fin 2) (c : Dev nD) (j : (slotR k s).shape.Idx) :
    SENT X W c b ((slotR k s).emb j) = sentV X W b k.val c (inHalf s fun a : Fin 2 => j a.succ) := by
  unfold SENT; rw [slot_inner, slot_row]
theorem ARR_slot (b : Bool) (k : Fin 4) (s : Fin 2) (c : Dev nD) (j : (slotR k s).shape.Idx) :
    ARR X W c b ((slotR k s).emb j) = sentV X W b (k.val - 1) (bwd b c) (inHalf s fun a : Fin 2 => j a.succ) := by
  unfold ARR; rw [slot_inner, slot_row]

/-- A kept half with its unit axis dropped, -/
theorem kept_half (b : Bool) (h : Fin 3) (s : Fin 2) (c : Dev nD) :
    shapeCast S256x1024 (fun j : S1x256x1024.Idx => PT X W c b ((halfR h s).emb j)) shapeCasts_S1x256x1024_S256x1024
      = fun j => prodV X W b (h.val + 1) c (inHalf s j) := by
  funext j
  exact (shapeCast_dropUnit_apply ![256, 1024] _ _ j).trans (PT_half X W b h s c _)
/-- and an arrived half. -/
theorem arrived_half (b : Bool) (h : Fin 3) (s : Fin 2) (c : Dev nD) :
    shapeCast S256x1024 (fun j : S1x256x1024.Idx => ARR X W c b ((slotR h.succ s).emb j)) shapeCasts_S1x256x1024_S256x1024
      = fun j => sentV X W b h.val (bwd b c) (inHalf s j) := by
  funext j
  exact (shapeCast_dropUnit_apply ![256, 1024] _ _ j).trans (ARR_slot X W b h.succ s (c) _)

theorem hop_pay (b : Bool) (h s : Fin 2) (c : Dev nD) (j : (slotR h.succ.castSucc s).shape.Idx) :
    hopPay (fun j => PT X W c b ((halfR h.castSucc s).emb j)) (fun j => ARR X W c b ((slotR h.succ.castSucc s).emb j)) j
      = SENT X W c b ((slotR h.succ.castSucc s).emb j) := by
  refine Eq.trans ?_ (SENT_slot X W b h.succ.castSucc s c j).symm
  have e : h.succ.castSucc = h.castSucc.succ := rfl
  have a : hopPay (fun j => PT X W c b ((halfR h.castSucc s).emb j)) (fun j => ARR X W c b ((slotR h.castSucc.succ s).emb j))
      = shapeCast S1x256x1024 (fun j => sentV X W b (h.val + 1) c (inHalf s j)) shapeCasts_S256x1024_S1x256x1024 := by
    unfold hopPay k0_pay11
    rw [kept_half X W b h.castSucc s c, arrived_half X W b h.castSucc s c]
    rfl
  exact (congrFun a j).trans (shapeCast_addUnit_apply ![256, 1024] _ _ j)

theorem last_pay (b : Bool) (s : Fin 2) (c : Dev nD) (j : (quadR b s).shape.Idx) :
    lastPay (fun j => PT X W c b ((halfR 2 s).emb j)) (fun j => ARR X W c b ((slotR 3 s).emb j)) j = OUT X W c ((quadR b s).emb j) := by
  have e1 : ((quadR b s).emb j 1).val = col b + (j 1).val := by
    rw [Rect.emb_apply]; show col b + 1 * (j 1).val = _; omega
  have e0 : ((quadR b s).emb j 0).val = 256 * s.val + (j 0).val := by
    rw [Rect.emb_apply]; show 256 * s.val + 1 * (j 0).val = _; omega
  have hj : (j 1).val < 1024 := (j 1).isLt
  have hl : lastPay (fun j => PT X W c b ((halfR 2 s).emb j)) (fun j => ARR X W c b ((slotR 3 s).emb j)) j = lastV X W b c (inHalf s j) := by
    unfold lastPay k0_pay19
    rw [kept_half X W b 2 s c, show (3 : Fin 4) = (2 : Fin 3).succ from rfl, arrived_half X W b 2 s c]
    rfl
  rw [hl]
  unfold OUT
  cases b
  · rw [dif_pos (by rw [e1]; show 0 + (j 1).val < 1024; omega)]
    congr 1; funext a; apply Fin.ext
    match a with
    | 0 => exact e0.symm
    | 1 => exact (e1.trans (Nat.zero_add _)).symm
  · rw [dif_neg (by rw [e1]; show ¬ 1024 + (j 1).val < 1024; omega)]
    congr 1; funext a; apply Fin.ext
    match a with
    | 0 => exact e0.symm
    | 1 => show (j 1).val = ((quadR true s).emb j 1).val - 1024; rw [e1]; show _ = 1024 + _ - 1024; omega

/-- What hop `h` sends is what arrives. -/
theorem send_arr (b : Bool) (h : Fin 3) (s : Fin 2) (c : Dev nD) (j : S1x256x1024.Idx) :
    SENT X W c b ((slotR h.castSucc s).emb j) = ARR X W (fwd b c) b ((slotR h.succ s).emb j) := by
  refine (SENT_slot X W b h.castSucc s c j).trans (Eq.trans ?_ (ARR_slot X W b h.succ s (fwd b c) j).symm)
  rw [bwd_fwd]
  rfl

end Cert.RingMatmul

end
-- ==== Proof.Protocol.lean ====
/-
# The protocol between the devices

Every device has a barrier cell and, for each direction, hop and half (a *leg*), one send cell and one receive cell.
Each cell has a single round.

* The barrier cell of `c` expects two units, one from each device that `c` sends to. The unit of the device that
  receives direction `b` from `c` hands over that device's landing rows for direction `b`.
* A receive cell expects one copy's credit and hands over the half row that landed, with its contents.
* A send cell expects the same credit and hands the half row that was read back.

A device owes its receivers one copy on each leg. Levels order the waits: barrier below the receives, the receives by
their hop; a device that waits for hop `h` only owes copies of later hops.
-/
module

public import proofs.«01_k».proof.Proof.Parts
public import proofs.«01_k».proof.Proof.Contents
public import Mathlib.Data.Fintype.Option

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

/-- Direction, hop and half of one copy. -/
abbrev Leg : Type := Bool × Fin 3 × Fin 2

abbrev barCell (c : Dev nD) : GSem nD τ sig := ((c : Thread nD τ), .reg barS)
abbrev sndCell (c : Dev nD) (l : Leg) : GSem nD τ sig := ((c : Thread nD τ), .dma (sndS l.1 l.2.1 l.2.2).sem)
abbrev rcvCell (c : Dev nD) (l : Leg) : GSem nD τ sig := ((c : Thread nD τ), .dma (rcvS l.1 l.2.1 l.2.2).sem)

/-- The cells of a device: the barrier, or a leg's send (`false`) or receive (`true`). -/
abbrev CK : Type := Option (Bool × Leg)
/-- Their semaphores. -/
def csem : CK → SemLoc sig
  | none => .reg barS
  | some (false, l) => .dma (sndS l.1 l.2.1 l.2.2).sem
  | some (true, l) => .dma (rcvS l.1 l.2.1 l.2.2).sem
abbrev kcell (ck : Dev nD × CK) : GSem nD τ sig := ((ck.1 : Thread nD τ), csem ck.2)

set_option synthInstance.maxSize 4000 in
set_option synthInstance.maxHeartbeats 400000 in
theorem csem_inj : Function.Injective csem := by
  have h : ∀ a b, csem a = csem b → a = b := by decide +kernel
  exact fun a b => h a b

/-- Which cell a semaphore is, if it is one. -/
def which (sm : SemLoc sig) : Option CK := Function.partialInv csem sm

theorem which_csem (k : CK) : which (csem k) = some k := Function.partialInv_left csem_inj k
theorem which_bar : which (.reg barS) = some none := which_csem none
theorem which_snd (l : Leg) : which (.dma (sndS l.1 l.2.1 l.2.2).sem) = some (some (false, l)) := which_csem (some (false, l))
theorem which_rcv (l : Leg) : which (.dma (rcvS l.1 l.2.1 l.2.2).sem) = some (some (true, l)) := which_csem (some (true, l))
theorem which_none {sm : SemLoc sig} (h : ∀ k, csem k ≠ sm) : which sm = none :=
  dif_neg fun ⟨k, hk⟩ => h k hk

/-- The credit of one copy. -/
def N : ℕ := (slotM false 0 0).view.dmaCredit
theorem N_pos : 0 < N := View.dmaCredit_pos _ (by decide)
theorem credit_eq : ∀ (b : Bool) (k : Fin 4) (s : Fin 2), (slotM b k s).view.dmaCredit = N
  | false, _, _ => rfl | true, _, _ => rfl

/-! ## Payloads -/

variable (X : Dev nD → Vec F S2048x512 .bf16) (W : Dev nD → Vec F S512x2048 .bf16)

/-- Rows 1 to 3 of direction `b`'s travelling buffer on device `c`, in halves: room for what lands. -/
def landing (c : Dev nD) (b : Bool) : sProp 𝕄 :=
  bigSep Finset.univ fun hs : Fin 3 × Fin 2 => room c (cM b) (slotR hs.1.succ hs.2)

/-- What hop `h` lands on device `c`. -/
def rcvPay (c : Dev nD) (l : Leg) : sProp 𝕄 := part c (cM l.1) (slotR l.2.1.succ l.2.2) (ARR X W c l.1)
/-- What hop `h` reads on device `c`. -/
def sndPay (c : Dev nD) (l : Leg) : sProp 𝕄 := part c (cM l.1) (slotR l.2.1.castSucc l.2.2) (SENT X W c l.1)

/-- What the duty `d` of cell `k` of device `c` hands over. -/
def handed (c : Dev nD) (d : Bool) : Option CK → sProp 𝕄
  | some none => landing (fwd d c) d
  | some (some (false, l)) => sndPay X W c l
  | some (some (true, l)) => rcvPay X W c l
  | none => iprop(emp)

omit [FloatOps F] in
instance landing_storable (c : Dev nD) (b : Bool) : BI.Storable (upEmb : UEmb _ 𝕄) (landing (F := F) c b) := by
  unfold landing; infer_instance
instance rcvPay_storable (c : Dev nD) (l : Leg) : BI.Storable (upEmb : UEmb _ 𝕄) (rcvPay X W c l) := by
  unfold rcvPay; infer_instance
instance sndPay_storable (c : Dev nD) (l : Leg) : BI.Storable (upEmb : UEmb _ 𝕄) (sndPay X W c l) := by
  unfold sndPay; infer_instance
instance handed_storable (c : Dev nD) (d : Bool) : ∀ k, BI.Storable (upEmb : UEmb _ 𝕄) (handed X W c d k)
  | some none => by unfold handed; infer_instance
  | some (some (false, l)) => by unfold handed; infer_instance
  | some (some (true, l)) => by unfold handed; infer_instance
  | none => by unfold handed; infer_instance

/-! ## The schedule -/

/-- The duties of a cell's round. -/
def dutiesOf : Option CK → Finset Bool
  | some none => Finset.univ | some (some _) => {false} | none => ∅
/-- The units of one duty. -/
def unitsOf : Option CK → ℕ
  | some none => 1 | _ => N

def sched : Rounds.Schedule (GSem nD τ sig) Bool 𝕄 where
  duties g r := if r = 0 ∧ g.1.2 = .tc then dutiesOf (which g.2) else ∅
  unitless _ := False
  amount g _ _ := unitsOf (which g.2)
  payload g _ d := handed X W g.1.1 d (which g.2)
  amount_pos g _ _ _ := by
    unfold unitsOf
    split
    · exact Nat.one_pos
    · exact N_pos

instance sched_storable (g : GSem nD τ sig) (r : ℕ) (d : Bool) : BI.Storable (upEmb : UEmb _ 𝕄) ((sched X W).payload g r d) := by
  show BI.Storable upEmb (handed X W g.1.1 d (which g.2)); infer_instance

section Tables
variable (c : Dev nD) (l : Leg)

theorem duties_bar : (sched X W).duties (barCell c) 0 = Finset.univ := by
  dsimp only [sched]; rw [if_pos ⟨rfl, rfl⟩, which_bar]; rfl
theorem duties_snd : (sched X W).duties (sndCell c l) 0 = {false} := by
  dsimp only [sched]; rw [if_pos ⟨rfl, rfl⟩, which_snd]; rfl
theorem duties_rcv : (sched X W).duties (rcvCell c l) 0 = {false} := by
  dsimp only [sched]; rw [if_pos ⟨rfl, rfl⟩, which_rcv]; rfl
theorem duties_later (g : GSem nD τ sig) : ∀ r, 1 ≤ r → (sched X W).duties g r = ∅ :=
  fun r hr => if_neg fun h => by omega

theorem amount_bar (d : Bool) : (sched X W).amount (barCell c) 0 d = 1 := by dsimp only [sched]; rw [which_bar]; rfl
theorem amount_snd (d : Bool) : (sched X W).amount (sndCell c l) 0 d = N := by dsimp only [sched]; rw [which_snd]; rfl
theorem amount_rcv (d : Bool) : (sched X W).amount (rcvCell c l) 0 d = N := by dsimp only [sched]; rw [which_rcv]; rfl

theorem payload_bar (d : Bool) : (sched X W).payload (barCell c) 0 d = landing (fwd d c) d := by dsimp only [sched]; rw [which_bar]; rfl
theorem payload_snd (d : Bool) : (sched X W).payload (sndCell c l) 0 d = sndPay X W c l := by dsimp only [sched]; rw [which_snd]; rfl
theorem payload_rcv (d : Bool) : (sched X W).payload (rcvCell c l) 0 d = rcvPay X W c l := by dsimp only [sched]; rw [which_rcv]; rfl

theorem expect_bar : (sched X W).expect (barCell c) 0 = 2 := by
  unfold Schedule.expect Schedule.amountOf
  rw [duties_bar, Finset.sum_congr rfl fun d _ => amount_bar X W c d]; rfl
theorem expect_snd : (sched X W).expect (sndCell c l) 0 = N := by
  unfold Schedule.expect Schedule.amountOf; rw [duties_snd, Finset.sum_singleton, amount_snd]
theorem expect_rcv : (sched X W).expect (rcvCell c l) 0 = N := by
  unfold Schedule.expect Schedule.amountOf; rw [duties_rcv, Finset.sum_singleton, amount_rcv]

theorem all_bar : bigSep ((sched X W).duties (barCell c) 0 \ ∅) (fun d => (sched X W).payload (barCell c) 0 d)
    = iprop(landing (fwd false c) false ∗ landing (fwd true c) true) := by
  rw [Finset.sdiff_empty, duties_bar, bigSep_univ_eq_bigSepL [false, true] (by decide) (by decide), bigSepL_cons_cons, bigSepL_singleton,
    payload_bar, payload_bar]; rfl
theorem all_snd : bigSep ((sched X W).duties (sndCell c l) 0 \ ∅) (fun d => (sched X W).payload (sndCell c l) 0 d) = sndPay X W c l := by
  rw [Finset.sdiff_empty, duties_snd, bigSep_singleton, payload_snd]
theorem all_rcv : bigSep ((sched X W).duties (rcvCell c l) 0 \ ∅) (fun d => (sched X W).payload (rcvCell c l) 0 d) = rcvPay X W c l := by
  rw [Finset.sdiff_empty, duties_rcv, bigSep_singleton, payload_rcv]

end Tables

/-! ## What a device owes, and the levels -/

/-- The copies of the legs `S`, owed to their receivers. -/
def owedL (c : Dev nD) (S : Finset Leg) : CellTallies nD τ sig Unit := ∑ l ∈ S, tallyAt (rcvCell (fwd l.1 c) l) () N

theorem owedL_erase (c : Dev nD) {S : Finset Leg} {l : Leg} (h : l ∈ S) :
    owedL c S = owedL c (S.erase l) + tallyAt (rcvCell (fwd l.1 c) l) () N := (Finset.sum_erase_add S _ h).symm
theorem owedL_empty (c : Dev nD) : owedL c ∅ = 0 := Finset.sum_empty

/-- At the start: every leg's copy and a unit for each of the two devices it receives from. -/
def O₀ (c : Dev nD) : CellTallies nD τ sig Unit :=
  owedL c Finset.univ + tallyAt (barCell (bwd true c)) () 1 + tallyAt (barCell (bwd false c)) () 1

def L (g : GSem nD τ sig) : Finset Unit := if g.1.2 = .tc then {()} else ∅
theorem L_of_ne (g : GSem nD τ sig) (h : g.1.2 ≠ .tc) : L g = ∅ := if_neg h
theorem mem_L (c : Dev nD) (sm : SemLoc sig) (u : Unit) : u ∈ L ((c : Thread nD τ), sm) := by
  unfold L; rw [if_pos rfl]; exact Finset.mem_singleton_self _

def levOf : Option CK → ℕ
  | some none => 1 | some (some (true, l)) => 2 + l.2.1.val | _ => 0
/-- The barrier at 1, the receives of hop `h` at `2 + h`, everything else at 0. -/
def lv (g : GSem nD τ sig) (_ : Unit) : ℕ := levOf (which g.2)

theorem lv_bar (c : Dev nD) (u : Unit) : lv (barCell c) u = 1 := by unfold lv; rw [which_bar]; rfl
theorem lv_snd (c : Dev nD) (l : Leg) (u : Unit) : lv (sndCell c l) u = 0 := by unfold lv; rw [which_snd]; rfl
theorem lv_rcv (c : Dev nD) (l : Leg) (u : Unit) : lv (rcvCell c l) u = 2 + l.2.1.val := by unfold lv; rw [which_rcv]; rfl

theorem owedL_pos {c : Dev nD} {S : Finset Leg} {g : GSem nD τ sig} {u : Unit} (h : 0 < owedL c S g u) : ∃ l ∈ S, g = rcvCell (fwd l.1 c) l := by
  unfold owedL at h
  rw [Finset.sum_apply, Finsupp.finset_sum_apply] at h
  obtain ⟨l, hl, hp⟩ := Finset.exists_ne_zero_of_sum_ne_zero h.ne'
  refine ⟨l, hl, ?_⟩
  by_contra hn
  exact hp (by rw [tallyAt_apply, if_neg fun h' => hn h'.1])

theorem O₀_pos {c : Dev nD} {g : GSem nD τ sig} {u : Unit} (h : 0 < O₀ c g u) :
    (∃ l ∈ (Finset.univ : Finset Leg), g = rcvCell (fwd l.1 c) l) ∨ ∃ b, g = barCell (bwd b c) := by
  by_contra hn
  rw [not_or] at hn
  have h1 : owedL c Finset.univ g u = 0 := Nat.eq_zero_of_not_pos fun hp => hn.1 (owedL_pos hp)
  have h2 (b : Bool) : tallyAt (barCell (bwd b c)) () 1 g u = 0 := by
    rw [tallyAt_apply]; exact if_neg fun h' => hn.2 ⟨b, h'.1⟩
  have h3 : O₀ c g u = owedL c Finset.univ g u + tallyAt (barCell (bwd true c)) () 1 g u + tallyAt (barCell (bwd false c)) () 1 g u := rfl
  rw [h3, h1, h2, h2] at h
  exact Nat.lt_irrefl 0 h

omit [FloatOps F] in
/-- A wait at a level below every hop still owed is allowed. -/
theorem mayWait_owed (c : Dev nD) (sm : SemLoc sig) (S : Finset Leg) (n : ℕ) (hsm : lv ((c : Thread nD τ), sm) () ≤ n)
    (hS : ∀ l ∈ S, n < 2 + l.2.1.val) : (levAts L lv : sProp 𝕄) ⊢ MayWait (c : Thread nD τ) sm () (owedL c S) :=
  MayOwe.of_cut (L := L) (lev := lv) n (fun p hp => by rw [Finset.mem_singleton.mp hp]; exact mem_L c sm ())
    (fun g u hg => by obtain ⟨l, -, rfl⟩ := owedL_pos hg; exact mem_L _ _ _)
    (fun p hp => by rw [Finset.mem_singleton.mp hp]; exact hsm)
    (fun g u hg => by obtain ⟨l, hl, rfl⟩ := owedL_pos hg; rw [lv_rcv]; exact hS l hl)

omit [FloatOps F] in
/-- A staging wait is allowed at the start and at the end. -/
theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L c _ ())
      (fun g u hg => ?_) (fun p hp => by rw [Finset.mem_singleton.mp hp]; unfold lv; rw [which_none hq]; exact le_rfl) (fun g u hg => ?_)
    · rcases O₀_pos hg with ⟨l, -, rfl⟩ | ⟨b, rfl⟩ <;> exact mem_L _ _ _
    · rcases O₀_pos hg with ⟨l, -, rfl⟩ | ⟨b, rfl⟩
      · rw [lv_rcv]; omega
      · rw [lv_bar]; exact Nat.one_pos
  · rw [MayWait_zero]; iintro -; iempintro

end Cert.RingMatmul

end
-- ==== Proof.Rects.lean ====
/-
# The rectangles cover their buffers

Each buffer is held in pieces: a travelling buffer in eight half rows, the kept products in six, the result in four
quarters. This module says that the pieces are disjoint and cover, and that a row is its two halves.
-/
module

public import proofs.«01_k».proof.Proof.Program

@[expose] public section

noncomputable section

namespace Cert.RingMatmul

open Cert.KernelIdeal Cert.KernelIdeal.Gen
open Idealize.ShloMosaic Idealize.ShloMosaic.TcCoe

/-- An index lies in a slot when its row is the slot's and its line lies in the slot's half. -/
theorem mem_slot (k : Fin 4) (s : Fin 2) (i : S4x512x1024.Idx) :
    i ∈ (slotR k s).set ↔ (i 0).val = k.val ∧ (i 1).val / 256 = s.val := by
  have h1 := (i 1).isLt; have h2 := (i 2).isLt
  change (i 1).val < 512 at h1; change (i 2).val < 1024 at h2
  unfold slotR
  rw [Rect.mem_set_unit]
  constructor
  · intro h
    have a := h 0; have b := h 1
    change k.val ≤ (i 0).val ∧ (i 0).val < k.val + 1 at a
    change 256 * s.val ≤ (i 1).val ∧ (i 1).val < 256 * s.val + 256 at b
    omega
  · rintro ⟨a, b⟩ x
    match x with
    | 0 => show k.val ≤ (i 0).val ∧ (i 0).val < k.val + 1; omega
    | 1 => show 256 * s.val ≤ (i 1).val ∧ (i 1).val < 256 * s.val + 256; omega
    | 2 => show 0 ≤ (i 2).val ∧ (i 2).val < 0 + 1024; omega

/-- An index lies in a kept half when its row is the half's and its line lies in it. -/
theorem mem_half (k : Fin 3) (s : Fin 2) (i : S3x512x1024.Idx) :
    i ∈ (halfR k s).set ↔ (i 0).val = k.val ∧ (i 1).val / 256 = s.val := by
  have h1 := (i 1).isLt; have h2 := (i 2).isLt
  change (i 1).val < 512 at h1; change (i 2).val < 1024 at h2
  unfold halfR
  rw [Rect.mem_set_unit]
  constructor
  · intro h
    have a := h 0; have b := h 1
    change k.val ≤ (i 0).val ∧ (i 0).val < k.val + 1 at a
    change 256 * s.val ≤ (i 1).val ∧ (i 1).val < 256 * s.val + 256 at b
    omega
  · rintro ⟨a, b⟩ x
    match x with
    | 0 => show k.val ≤ (i 0).val ∧ (i 0).val < k.val + 1; omega
    | 1 => show 256 * s.val ≤ (i 1).val ∧ (i 1).val < 256 * s.val + 256; omega
    | 2 => show 0 ≤ (i 2).val ∧ (i 2).val < 0 + 1024; omega

/-- Which direction fills a column of the result. -/
def sideNo : Bool → ℕ := fun | false => 0 | true => 1

/-- An index lies in a quarter of the result when both its halves are the quarter's. -/
theorem mem_quad (b : Bool) (s : Fin 2) (i : S512x2048.Idx) :
    i ∈ (quadR b s).set ↔ (i 0).val / 256 = s.val ∧ (i 1).val / 1024 = sideNo b := by
  have h0 := (i 0).isLt; have h1 := (i 1).isLt
  change (i 0).val < 512 at h0; change (i 1).val < 2048 at h1
  have hc : col b = 1024 * sideNo b := by cases b <;> rfl
  unfold quadR
  rw [Rect.mem_set_unit]
  constructor
  · intro h
    have p := h 0; have q := h 1
    change 256 * s.val ≤ (i 0).val ∧ (i 0).val < 256 * s.val + 256 at p
    change col b ≤ (i 1).val ∧ (i 1).val < col b + 1024 at q
    omega
  · rintro ⟨p, q⟩ x
    match x with
    | 0 => show 256 * s.val ≤ (i 0).val ∧ (i 0).val < 256 * s.val + 256; omega
    | 1 => show col b ≤ (i 1).val ∧ (i 1).val < col b + 1024; omega

theorem mem_head (i : S4x512x1024.Idx) : i ∈ headR.set ↔ (i 0).val = 0 := by
  have h1 := (i 1).isLt; have h2 := (i 2).isLt
  change (i 1).val < 512 at h1; change (i 2).val < 1024 at h2
  unfold headR
  rw [Rect.mem_set_unit]
  constructor
  · intro h
    have a := h 0
    change 0 ≤ (i 0).val ∧ (i 0).val < 0 + 1 at a
    omega
  · intro a x
    match x with
    | 0 => show 0 ≤ (i 0).val ∧ (i 0).val < 0 + 1; omega
    | 1 => show 0 ≤ (i 1).val ∧ (i 1).val < 0 + 512; omega
    | 2 => show 0 ≤ (i 2).val ∧ (i 2).val < 0 + 1024; omega

theorem mem_keep (k : Fin 3) (i : S3x512x1024.Idx) : i ∈ (keepR k).set ↔ (i 0).val = k.val := by
  have h1 := (i 1).isLt; have h2 := (i 2).isLt
  change (i 1).val < 512 at h1; change (i 2).val < 1024 at h2
  unfold keepR
  rw [Rect.mem_set_unit]
  constructor
  · intro h
    have a := h 0
    change k.val ≤ (i 0).val ∧ (i 0).val < k.val + 1 at a
    omega
  · intro a x
    match x with
    | 0 => show k.val ≤ (i 0).val ∧ (i 0).val < k.val + 1; omega
    | 1 => show 0 ≤ (i 1).val ∧ (i 1).val < 0 + 512; omega
    | 2 => show 0 ≤ (i 2).val ∧ (i 2).val < 0 + 1024; omega

/-! ## Slots -/

theorem slots_disjoint (t t' : Fin 4 × Fin 2) (h : t ≠ t') : Disjoint (slotR t.1 t.2).set (slotR t'.1 t'.2).set :=
  Finset.disjoint_left.mpr fun i hi hi' => by
    rw [mem_slot] at hi hi'
    exact h (Prod.ext (Fin.ext (hi.1.symm.trans hi'.1)) (Fin.ext (hi.2.symm.trans hi'.2)))
theorem slots_cover : (Finset.univ : Finset (Fin 4 × Fin 2)).biUnion (fun t => (slotR t.1 t.2).set) = Finset.univ := by
  ext i
  have h0 := (i 0).isLt; have h1 := (i 1).isLt
  change (i 0).val < 4 at h0; change (i 1).val < 512 at h1
  simp only [Finset.mem_biUnion, Finset.mem_univ, true_and, iff_true]
  exact ⟨(⟨(i 0).val, h0⟩, ⟨(i 1).val / 256, by omega⟩), (mem_slot _ _ i).mpr ⟨rfl, rfl⟩⟩

/-- Row 0 is its two halves. -/
theorem head_cut : headR.set = (slotR 0 0).set ∪ (slotR 0 1).set := by
  ext i
  have h1 := (i 1).isLt; change (i 1).val < 512 at h1
  rw [Finset.mem_union, mem_slot, mem_slot, mem_head]
  show _ ↔ (i 0).val = 0 ∧ (i 1).val / 256 = 0 ∨ (i 0).val = 0 ∧ (i 1).val / 256 = 1
  omega
theorem head_apart : Disjoint (slotR 0 0).set (slotR 0 1).set := slots_disjoint (0, 0) (0, 1) (by decide)

/-! ## Kept products -/

theorem halves_disjoint (t t' : Fin 3 × Fin 2) (h : t ≠ t') : Disjoint (halfR t.1 t.2).set (halfR t'.1 t'.2).set :=
  Finset.disjoint_left.mpr fun i hi hi' => by
    rw [mem_half] at hi hi'
    exact h (Prod.ext (Fin.ext (hi.1.symm.trans hi'.1)) (Fin.ext (hi.2.symm.trans hi'.2)))
theorem halves_cover : (Finset.univ : Finset (Fin 3 × Fin 2)).biUnion (fun t => (halfR t.1 t.2).set) = Finset.univ := by
  ext i
  have h0 := (i 0).isLt; have h1 := (i 1).isLt
  change (i 0).val < 3 at h0; change (i 1).val < 512 at h1
  simp only [Finset.mem_biUnion, Finset.mem_univ, true_and, iff_true]
  exact ⟨(⟨(i 0).val, h0⟩, ⟨(i 1).val / 256, by omega⟩), (mem_half _ _ i).mpr ⟨rfl, rfl⟩⟩

theorem keep_cut (h : Fin 3) : (keepR h).set = (halfR h 0).set ∪ (halfR h 1).set := by
  ext i
  have h1 := (i 1).isLt; change (i 1).val < 512 at h1
  rw [Finset.mem_union, mem_half, mem_half, mem_keep]
  show _ ↔ (i 0).val = h.val ∧ (i 1).val / 256 = 0 ∨ (i 0).val = h.val ∧ (i 1).val / 256 = 1
  omega
theorem keep_apart (h : Fin 3) : Disjoint (halfR h 0).set (halfR h 1).set :=
  halves_disjoint (h, 0) (h, 1) fun e => Fin.zero_ne_one (congrArg Prod.snd e)

/-! ## The result's quarters -/

theorem quads_disjoint (t t' : Bool × Fin 2) (h : t ≠ t') : Disjoint (quadR t.1 t.2).set (quadR t'.1 t'.2).set :=
  Finset.disjoint_left.mpr fun i hi hi' => by
    rw [mem_quad] at hi hi'
    have e := hi.2.symm.trans hi'.2
    exact h (Prod.ext (by revert e; cases t.1 <;> cases t'.1 <;> simp [sideNo]) (Fin.ext (hi.1.symm.trans hi'.1)))
theorem quads_cover : (Finset.univ : Finset (Bool × Fin 2)).biUnion (fun t => (quadR t.1 t.2).set) = Finset.univ := by
  ext i
  have h0 := (i 0).isLt; have h1 := (i 1).isLt
  change (i 0).val < 512 at h0; change (i 1).val < 2048 at h1
  simp only [Finset.mem_biUnion, Finset.mem_univ, true_and, iff_true]
  by_cases hc : (i 1).val < 1024
  · exact ⟨(false, ⟨(i 0).val / 256, by omega⟩), (mem_quad _ _ i).mpr ⟨rfl, by show _ = 0; omega⟩⟩
  · exact ⟨(true, ⟨(i 0).val / 256, by omega⟩), (mem_quad _ _ i).mpr ⟨rfl, by show _ = 1; omega⟩⟩

end Cert.RingMatmul

end
-- ==== Proof.Steps.lean ====
/-
# The steps of the body

One theorem for each kind of step, at a symbolic device, direction, hop and half: what the step needs and what it leaves
to the rest of the program.
-/
module

public import proofs.«01_k».proof.Proof.Protocol
public import proofs.«01_k».proof.Proof.Rects

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x512 .bf16) (W : Dev nD → Vec F S512x2048 .bf16)

/-- The rest `p` of device `c`'s body runs and ends in `Q`. -/
abbrev Runs (c : Dev nD) (p : PG F PUnit) (Q : PUnit → sProp 𝕄) : sProp 𝕄 :=
  wp frame (wpE (defs₀ (F := F)) 𝒱₀ (c : Thread nD τ) none) Set.univ p Q

/-- Device `c` owes `O`, whatever it has waited for. -/
def due (c : Dev nD) (O : CellTallies nD τ sig Unit) : sProp 𝕄 := iprop(∃ V : Waits sig Unit, owes (c : Thread nD τ) O V)

/-- All cells of all devices are open for use, at the names `K`, with round 0 reached. -/
def book (K : Dev nD × CK → ℕ) : sProp 𝕄 :=
  iprop((bigSep Finset.univ fun ck : Dev nD × CK => cellInv ER (sched X W) (K ck) (kcell ck))
    ∗ bigSep Finset.univ fun ck : Dev nD × CK => reached ER (kcell ck) 0)

instance book_persistent (K : Dev nD × CK → ℕ) : BI.Persistent (book X W K) := by unfold book; infer_instance

variable (K : Dev nD × CK → ℕ)

theorem book_inv (ck : Dev nD × CK) : book X W K ⊢ cellInv ER (sched X W) (K ck) (kcell ck) := by
  have h : (bigSep Finset.univ fun ck : Dev nD × CK => (cellInv ER (sched X W) (K ck) (kcell ck) : sProp 𝕄)) ⊢ cellInv ER (sched X W) (K ck) (kcell ck) :=
    bigSep_elim (Finset.mem_univ ck)
  unfold book
  iintro ⟨H, -⟩
  iapply h $$ H
theorem book_reached (ck : Dev nD × CK) : book X W K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold book
  iintro ⟨-, H⟩
  iapply h $$ H

variable (c : Dev nD) {k : PG F PUnit.{1}}

/-! ## The barrier -/

/-- A signal to the device that sends direction `b` here: the landing rows go with it. -/
theorem step_signal {Q : PUnit → sProp 𝕄} (b : Bool) (n : Dev nD) (hn : n = bwd b c) {O₁ O : CellTallies nD τ sig Unit}
    (hO : O₁ = O + tallyAt (barCell (bwd b c)) () 1) :
    iprop(book X W K ∗ due c O₁ ∗ dutyTok ER (barCell (bwd b c)) 0 b ∗ landing (F := F) c b)
      ⊢ iprop((due c O -∗ Runs c k Q) -∗ Runs c (semSignalWord n barS 1#32 >>= fun _ => k) Q) := by
  subst hn
  simp only [semSignalWord, Prog.bind_op, Prog.bind_ret]
  unfold due
  iintro ⟨#HB, ⟨%V, HO⟩, Ht, Hl⟩ Hk
  iapply (Rounds.wp_signal 𝒱₀ ER (sched X W) (c : Thread nD τ) none (dst := (bwd b c : Thread nD τ)) (κ := K (bwd b c, none)) (r := 0)
      (d := b) (by rw [duties_bar]; exact Finset.mem_univ _) ((amount_bar X W (bwd b c) b).trans (by decide)) () O hO)
    $$ [HO Ht Hl]
  · isplitr; · iapply (book_inv X W K (bwd b c, none)); iexact HB
    isplitl [HO]; · iexact HO
    isplitl [Ht]; · iexact Ht
    isplitl [Hl]; · rw [payload_bar, fwd_bwd]; iexact Hl
    iapply (book_reached X W K (bwd b c, none)); iexact HB
  iintro HO
  iapply Hk
  iexists V; iexact HO

/-- The wait for both receivers: their landing rows arrive. -/
theorem step_barrier {Q : PUnit → sProp 𝕄} :
    iprop(book X W K ∗ levAts L lv ∗ cred (tallyAt (barCell c) () 2) ∗ due c (owedL c Finset.univ) ∗ atPos ER (barCell c) 0 ∅ 0)
      ⊢ iprop(((due c (owedL c Finset.univ) ∗ atPos ER (barCell c) 1 ∅ 0 ∗ landing (F := F) (fwd false c) false ∗ landing (fwd true c) true) -∗ Runs c k Q)
        -∗ Runs c (semWaitWord barS 2#32 >>= fun _ => k) Q) := by
  simp only [semWaitWord, Prog.bind_op, Prog.bind_ret]
  unfold due
  iintro ⟨#HB, #HL, Hc, ⟨%V, HO⟩, Ha⟩ Hk
  iapply (Rounds.wp_wait_rest_token 𝒱₀ ER (sched X W) (c : Thread nD τ) none (κ := K (c, none))
      (wpE_semWait_eq 𝒱₀ (c : Thread nD τ) none Set.univ) (Set.mem_univ _) () (O := owedL c Finset.univ) (W := V) (R := 0) (m := 0) (T := ∅)
      (by rw [expect_bar]; decide)) $$ [Hc HO Ha]
  · isplitr; · iapply (book_inv X W K (c, none)); iexact HB
    isplitl [Hc]; · iexact Hc
    isplitl [HO]; · iexact HO
    isplitr
    · iapply (mayWait_owed (F := F) c (.reg barS) Finset.univ 1 (by rw [lv_bar]) (fun l _ => by omega)); iexact HL
    iexact Ha
  iintro ⟨HO, Ha, -, Hp⟩
  ihave Hp' := (Entails.of_eq (all_bar X W c)) $$ Hp
  icases Hp' with ⟨H1, H2⟩
  iapply Hk
  isplitl [HO]; · iexists _; iexact HO
  isplitl [Ha]; · iexact Ha
  isplitl [H1] <;> iassumption

/-! ## Copies -/

/-- What a copy needs beside its source: both cells' duties and the landing rows. -/
def ticket (c : Dev nD) (l : Leg) : sProp 𝕄 :=
  iprop(dutyTok ER (sndCell c l) 0 false ∗ dutyTok ER (rcvCell (fwd l.1 c) l) 0 false)

/-- The source half row, read back, pays the send cell; -/
theorem src_pays (b : Bool) (h : Fin 3) (s : Fin 2) (fs : Buf (Elt F) ((cM b).view.loc (c : Thread nD τ)))
    (hfs : ∀ j, (cM b).view.read (Elt F) fs ((slotR h.castSucc s).emb j) = SENT X W c b ((slotR h.castSucc s).emb j)) :
    ((slotM b h.castSucc s).view.loc (c : Thread nD τ) ↦[(slotM b h.castSucc s).view.set]{fullShare} fs : sProp 𝕄) ⊢ sndPay X W c (b, h, s) := by
  unfold sndPay part
  rw [slot_set]
  iintro H
  iexists fs
  isplitr
  · ipureintro; exact hfs
  iexact H

/-- and the landed half row the receive cell. -/
theorem dst_pays (b : Bool) (h : Fin 3) (s : Fin 2) (fs : Buf (Elt F) ((cM b).view.loc (c : Thread nD τ)))
    (hfs : ∀ j, (cM b).view.read (Elt F) fs ((slotR h.castSucc s).emb j) = SENT X W c b ((slotR h.castSucc s).emb j))
    (fd : Buf (Elt F) ((cM b).view.loc (fwd b c : Thread nD τ))) :
    ((slotM b h.succ s).view.loc (fwd b c : Thread nD τ) ↦[(slotM b h.succ s).view.set]{fullShare}
        ((slotM b h.succ s).view.write (Elt F) fd ((slotM b h.castSucc s).view.read (Elt F) fs) Finset.univ) : sProp 𝕄)
      ⊢ rcvPay X W (fwd b c) (b, h, s) := by
  unfold rcvPay part
  rw [slot_set]
  iintro H
  iexists _
  isplitr
  swap
  · iexact H
  ipureintro
  intro j
  exact (slot_copy b h.castSucc h.succ s s fs fd j).trans ((hfs j).trans (send_arr X W b h s c j))

/-- A send. -/
theorem step_send {Q : PUnit → sProp 𝕄} (b : Bool) (h : Fin 3) (s : Fin 2) (n : Dev nD) (hn : n = fwd b c) {S : Finset Leg} (hS : (b, h, s) ∈ S) :
    iprop(book X W K ∗ due c (owedL c S) ∗ ticket c (b, h, s) ∗ room (fwd b c) (cM b) (slotR h.succ s) ∗ sndPay X W c (b, h, s))
      ⊢ iprop(((due c (owedL c (S.erase (b, h, s))) ∗ cred (tallyAt (sndCell c (b, h, s)) () N)) -∗ Runs c k Q)
        -∗ Runs c (sendP b h s n >>= fun _ => k) Q) := by
  subst hn
  simp only [sendP, Prog.lift, Prog.bind_op, Prog.bind_ret]
  unfold due ticket room
  iintro ⟨#HB, ⟨%V, HO⟩, ⟨Hts, Htr⟩, ⟨%fd, Hd⟩, Hs⟩ Hk
  unfold sndPay part
  icases Hs with ⟨%fs, %hfs, Hs⟩
  iapply (Rounds.wp_send_pointsTo 𝒱₀ ER (sched X W) (c : Thread nD τ) none (c' := (fwd b c : Thread nD τ))
    (κ₁ := K (c, some (false, (b, h, s)))) (κ₂ := K (fwd b c, some (true, (b, h, s))))
    (r₁ := 0) (r₂ := 0) (d₁ := false) (d₂ := false) (fs := fs) (fd := fd) (q := fullShare)
    (sS := .dma (sndS b h s).sem) (sem := .dma (rcvS b h s).sem)
    (src := slotM b h.castSucc s) (dst := (slotM b h.succ s : Memref sig (fwd b c : Thread nD τ).2.kind .vmem S256x1024 .bf16))
    (by rw [duties_snd X W c (b, h, s)]; exact Finset.mem_singleton_self _)
    (by rw [duties_rcv X W (fwd b c) (b, h, s)]; exact Finset.mem_singleton_self _)
    () () N (credit_eq b h.succ s) (amount_snd X W c (b, h, s) false) (amount_rcv X W (fwd b c) (b, h, s) false)
    (owedL c (S.erase (b, h, s))) (owedL_erase c hS) (W := V)
    (by rw [payload_snd X W c (b, h, s)]; exact src_pays X W c b h s fs hfs)
    (by rw [payload_rcv X W (fwd b c) (b, h, s)]; exact dst_pays X W c b h s fs hfs fd)) $$ [HO Hts Htr Hd Hs]
  · isplitr; · iapply (book_inv X W K (c, some (false, (b, h, s)))); iexact HB
    isplitr; · iapply (book_inv X W K (fwd b c, some (true, (b, h, s)))); iexact HB
    isplitl [Hs]; · rw [slot_set]; iexact Hs
    isplitl [Hd]; · rw [slot_set]; iexact Hd
    isplitl [HO]; · iexact HO
    isplitl [Hts]; · iexact Hts
    isplitr; · iapply (book_reached X W K (c, some (false, (b, h, s)))); iexact HB
    isplitl [Htr]; · iexact Htr
    iapply (book_reached X W K (fwd b c, some (true, (b, h, s)))); iexact HB
  iintro ⟨Hc, HO⟩
  iapply Hk
  isplitl [HO]
  · iexists V; iexact HO
  iexact Hc

/-- A wait for hop `h` to arrive, when only copies of later hops are owed. -/
theorem step_recv {Q : PUnit → sProp 𝕄} (b : Bool) (h : Fin 3) (s : Fin 2) {S : Finset Leg} (hS : ∀ l ∈ S, h.val < l.2.1.val) :
    iprop(book X W K ∗ levAts L lv ∗ due c (owedL c S) ∗ cred (tallyAt (rcvCell c (b, h, s)) () N) ∗ atPos ER (rcvCell c (b, h, s)) 0 ∅ 0)
      ⊢ iprop(((due c (owedL c S) ∗ atPos ER (rcvCell c (b, h, s)) 1 ∅ 0 ∗ rcvPay X W c (b, h, s)) -∗ Runs c k Q)
        -∗ Runs c (recvP b h s >>= fun _ => k) Q) := by
  simp only [recvP, Prog.lift, Prog.bind_op, Prog.bind_ret]
  unfold due
  iintro ⟨#HB, #HL, ⟨%V, HO⟩, Hc, Ha⟩ Hk
  iapply (Rounds.wp_wait_rest_token 𝒱₀ ER (sched X W) (c : Thread nD τ) none (κ := K (c, some (true, (b, h, s))))
      (wpE_waitDma2_eq 𝒱₀ (c : Thread nD τ) none Set.univ) (Set.mem_univ _) () (O := owedL c S) (W := V) (R := 0) (m := 0) (T := ∅)
      (by rw [Nat.zero_add, expect_rcv X W c (b, h, s)]; exact credit_eq b _ s)) $$ [Hc HO Ha]
  · isplitr; · iapply (book_inv X W K (c, some (true, (b, h, s)))); iexact HB
    isplitl [Hc]; · rw [credit_eq]; iexact Hc
    isplitl [HO]; · iexact HO
    isplitr
    · iapply (mayWait_owed (F := F) c (.dma (rcvS b h s).sem) S (2 + h.val) (by rw [lv_rcv c (b, h, s)]) (fun l hl => Nat.add_lt_add_left (hS l hl) 2)); iexact HL
    iexact Ha
  iintro ⟨HO, Ha, -, Hp⟩
  ihave Hp' := (Entails.of_eq (all_rcv X W c (b, h, s))) $$ Hp
  iapply Hk
  isplitl [HO]; · iexists _; iexact HO
  isplitl [Ha] <;> iassumption

/-- A wait for an own copy to have left, when nothing is owed. -/
theorem step_sent {Q : PUnit → sProp 𝕄} (b : Bool) (h : Fin 3) (s : Fin 2) :
    iprop(book X W K ∗ levAts L lv ∗ due c (owedL c ∅) ∗ cred (tallyAt (sndCell c (b, h, s)) () N) ∗ atPos ER (sndCell c (b, h, s)) 0 ∅ 0)
      ⊢ iprop(((due c (owedL c ∅) ∗ atPos ER (sndCell c (b, h, s)) 1 ∅ 0 ∗ sndPay X W c (b, h, s)) -∗ Runs c k Q)
        -∗ Runs c (sentP b h s >>= fun _ => k) Q) := by
  simp only [sentP, Prog.lift, Prog.bind_op, Prog.bind_ret]
  unfold due
  iintro ⟨#HB, #HL, ⟨%V, HO⟩, Hc, Ha⟩ Hk
  iapply (Rounds.wp_wait_rest_token 𝒱₀ ER (sched X W) (c : Thread nD τ) none (κ := K (c, some (false, (b, h, s))))
      (wpE_waitDma2_eq 𝒱₀ (c : Thread nD τ) none Set.univ) (Set.mem_univ _) () (O := owedL c ∅) (W := V) (R := 0) (m := 0) (T := ∅)
      (by rw [Nat.zero_add, expect_snd X W c (b, h, s)]; exact credit_eq b _ s)) $$ [Hc HO Ha]
  · isplitr; · iapply (book_inv X W K (c, some (false, (b, h, s)))); iexact HB
    isplitl [Hc]; · rw [credit_eq]; iexact Hc
    isplitl [HO]; · iexact HO
    isplitr
    · iapply (mayWait_owed (F := F) c (.dma (sndS b h s).sem) ∅ 0 (by rw [lv_snd c (b, h, s)]) (fun l hl => absurd hl (Finset.notMem_empty l))); iexact HL
    iexact Ha
  iintro ⟨HO, Ha, -, Hp⟩
  ihave Hp' := (Entails.of_eq (all_snd X W c (b, h, s))) $$ Hp
  iapply Hk
  isplitl [HO]; · iexists _; iexact HO
  isplitl [Ha] <;> iassumption

/-! ## Arithmetic -/

/-- A load of a whole memref's rectangle. -/
theorem whole_load {Q : PUnit → sProp 𝕄} {sh : Shape} {e : EltTy} (m : Memref sig .tc .vmem sh e) {r : Rect sh} {Y : sh.Idx → Elt F e} {hl : m.view.LoadsAt r.toLoadRect}
    {p : (r.shape.Idx → Elt F e) → PG F PUnit} :
    owns (c : Thread nD τ) m fullShare Y ⊢ iprop((owns (c : Thread nD τ) m fullShare Y -∗ Runs c (p fun j => Y (r.emb j)) Q)
      -∗ Runs c (.op (.load m r.toLoadRect hl) p) Q) := by
  unfold owns
  iintro ⟨%f, %hf, H⟩ Hk
  subst hf
  iapply (wp_load 𝒱₀ (c : Thread nD τ) none Set.univ (m := m) (r := r.toLoadRect) (S := m.view.set) (Finset.map_subset_map.mpr (Finset.subset_univ _))) $$ H
  iintro H
  iapply Hk
  iexists f
  isplitr
  · ipureintro; rfl
  iexact H

/-- The first product of a direction, held afterwards as the two half rows that the first hop reads. -/
theorem step_head {Q : PUnit → sProp 𝕄} (b : Bool) (off : Fin 2 → ℕ) (hoff : ∀ a, off a + S512x512.size a ≤ S2048x512.size a)
    (ho : off = rowOff (rowOf b 0 c)) :
    iprop(owns (c : Thread nD τ) xM fullShare (X c) ∗ owns (c : Thread nD τ) wM fullShare (W c)
        ∗ room (F := F) c (cM b) (slotR 0 0) ∗ room c (cM b) (slotR 0 1))
      ⊢ iprop(((owns (c : Thread nD τ) xM fullShare (X c) ∗ owns (c : Thread nD τ) wM fullShare (W c)
          ∗ sndPay X W c (b, 0, 0) ∗ sndPay X W c (b, 0, 1)) -∗ Runs c k Q)
        -∗ Runs c (headP b off hoff >>= fun _ => k) Q) := by
  subst ho
  simp only [headP, Prog.lift, Prog.bind_op, Prog.bind_ret]
  iintro ⟨Hx, Hw, H0, H1⟩ Hk
  iapply (whole_load c xM) $$ Hx
  iintro Hx
  iapply (whole_load c wM) $$ Hw
  iintro Hw
  ihave Hr := (room_join c (cM b) head_cut head_apart) $$ [H0 H1]
  · isplitl [H0] <;> iassumption
  iapply (room_load c (cM b)) $$ Hr
  iintro Hr %v
  iapply (room_store c (cM b) (Y := SENT X W c b) (head_pay X W b c)) $$ Hr
  iintro Hp
  ihave Hs := (part_cut c (cM b) head_cut head_apart) $$ Hp
  icases Hs with ⟨H0, H1⟩
  iapply Hk
  isplitl [Hx]; · iexact Hx
  isplitl [Hw]; · iexact Hw
  isplitl [H0]
  · unfold sndPay; iexact H0
  · unfold sndPay; iexact H1

/-- A half of the products kept for hop `h`. -/
def kept (c : Dev nD) (b : Bool) (h : Fin 3) (s : Fin 2) : sProp 𝕄 := part c (pM b) (halfR h s) (PT X W c b)

/-- A product kept, held afterwards as two halves. -/
theorem step_keep {Q : PUnit → sProp 𝕄} (b : Bool) (h : Fin 3) (off : Fin 2 → ℕ) (hoff : ∀ a, off a + S512x512.size a ≤ S2048x512.size a)
    (ho : off = rowOff (rowOf b (h.val + 1) c)) :
    iprop(owns (c : Thread nD τ) xM fullShare (X c) ∗ owns (c : Thread nD τ) wM fullShare (W c)
        ∗ room (F := F) c (pM b) (halfR h 0) ∗ room c (pM b) (halfR h 1))
      ⊢ iprop(((owns (c : Thread nD τ) xM fullShare (X c) ∗ owns (c : Thread nD τ) wM fullShare (W c)
          ∗ kept X W c b h 0 ∗ kept X W c b h 1) -∗ Runs c k Q)
        -∗ Runs c (keepP b h off hoff >>= fun _ => k) Q) := by
  subst ho
  simp only [keepP, Prog.lift, Prog.bind_op, Prog.bind_ret]
  iintro ⟨Hx, Hw, H0, H1⟩ Hk
  iapply (whole_load c xM) $$ Hx
  iintro Hx
  iapply (whole_load c wM) $$ Hw
  iintro Hw
  ihave Hr := (room_join c (pM b) (keep_cut h) (keep_apart h)) $$ [H0 H1]
  · isplitl [H0] <;> iassumption
  iapply (room_load c (pM b)) $$ Hr
  iintro Hr %v
  iapply (room_store c (pM b) (Y := PT X W c b) (keep_pay X W b h c)) $$ Hr
  iintro Hp
  ihave Hs := (part_cut c (pM b) (keep_cut h) (keep_apart h)) $$ Hp
  icases Hs with ⟨H0, H1⟩
  iapply Hk
  isplitl [Hx]; · iexact Hx
  isplitl [Hw]; · iexact Hw
  isplitl [H0]
  · unfold kept; iexact H0
  · unfold kept; iexact H1

/-- The sum of what arrived and a kept half: what the next hop reads. -/
theorem step_add {Q : PUnit → sProp 𝕄} (b : Bool) (h s : Fin 2) :
    iprop(kept X W c b h.castSucc s ∗ rcvPay X W c (b, h.castSucc, s))
      ⊢ iprop(((kept X W c b h.castSucc s ∗ sndPay X W c (b, h.succ, s)) -∗ Runs c k Q)
        -∗ Runs c (addP b h s >>= fun _ => k) Q) := by
  simp only [addP, Prog.lift, Prog.bind_op, Prog.bind_ret]
  rw [show rcvPay X W c (b, h.castSucc, s) = part c (cM b) (slotR h.succ.castSucc s) (ARR X W c b) from rfl]
  unfold kept
  iintro ⟨Hp, Ha⟩ Hk
  iapply (part_load c (pM b) (Finset.Subset.refl _)) $$ Hp
  iintro Hp
  iapply (part_load c (cM b) (r := slotR h.succ.castSucc s) (Finset.Subset.refl _)) $$ Ha
  iintro Ha
  iapply (part_load c (cM b) (Finset.Subset.refl _)) $$ Ha
  iintro Ha
  ihave Hr := (part_room c (cM b) (slotR h.succ.castSucc s) _) $$ Ha
  iapply (room_store c (cM b) (Y := SENT X W c b) (hop_pay X W b h s c)) $$ Hr
  iintro Hs
  iapply Hk
  isplitl [Hp]; · iexact Hp
  unfold sndPay; iexact Hs

/-- The last sum through the epilogue fills a quarter of the result. -/
theorem step_out {Q : PUnit → sProp 𝕄} (b : Bool) (s : Fin 2) :
    iprop(kept X W c b 2 s ∗ rcvPay X W c (b, 2, s) ∗ room c oM (quadR b s))
      ⊢ iprop(((kept X W c b 2 s ∗ rcvPay X W c (b, 2, s) ∗ part c oM (quadR b s) (OUT X W c)) -∗ Runs c k Q)
        -∗ Runs c (outP b s >>= fun _ => k) Q) := by
  simp only [outP, Prog.lift, Prog.bind_op, Prog.bind_ret]
  rw [show rcvPay X W c (b, 2, s) = part c (cM b) (slotR 3 s) (ARR X W c b) from rfl]
  unfold kept
  iintro ⟨Hp, Ha, Ho⟩ Hk
  iapply (part_load c (pM b) (Finset.Subset.refl _)) $$ Hp
  iintro Hp
  iapply (part_load c (cM b) (r := slotR 3 s) (Finset.Subset.refl _)) $$ Ha
  iintro Ha
  iapply (room_load c oM) $$ Ho
  iintro Ho %v
  iapply (room_store c oM (Y := OUT X W c) (last_pay X W b s c)) $$ Ho
  iintro Ho
  iapply Hk
  isplitl [Hp]; · iexact Hp
  isplitl [Ha]; · iexact Ha
  iexact Ho

end Cert.RingMatmul

end
-- ==== Proof.Legs.lean ====
/-
# One copy from its send to its close

A leg is one copy of a direction, hop and half. Its device holds it in four states: `gear` before the copy is sent,
`flying` between the send and the wait for the same leg's arrival on this device, `taken` until the wait for the
departure, `over` afterwards, when both cells are closed at zero. One theorem moves a leg, or two successive legs of
a line, through one step of the body.
-/
module

public import proofs.«01_k».proof.Proof.Steps

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x512 .bf16) (W : Dev nD → Vec F S512x2048 .bf16)

/-! ## The four states -/

/-- Not sent yet: the duties to pay, the credit of the arrival, both positions. -/
def gear (c : Dev nD) (l : Leg) : sProp 𝕄 :=
  iprop(ticket c l ∗ cred (tallyAt (rcvCell c l) () N) ∗ atPos ER (rcvCell c l) 0 ∅ 0 ∗ atPos ER (sndCell c l) 0 ∅ 0)
/-- Sent, arrival not awaited yet. -/
def flying (c : Dev nD) (l : Leg) : sProp 𝕄 :=
  iprop(cred (tallyAt (sndCell c l) () N) ∗ cred (tallyAt (rcvCell c l) () N) ∗ atPos ER (rcvCell c l) 0 ∅ 0 ∗ atPos ER (sndCell c l) 0 ∅ 0)
/-- Arrival awaited, departure not yet. -/
def taken (c : Dev nD) (l : Leg) : sProp 𝕄 :=
  iprop(cred (tallyAt (sndCell c l) () N) ∗ atPos ER (rcvCell c l) 1 ∅ 0 ∗ atPos ER (sndCell c l) 0 ∅ 0)
/-- Both awaited and both cells closed; the half row that was read is back. -/
def over (c : Dev nD) (l : Leg) : sProp 𝕄 :=
  iprop(semVal (rcvCell c l) 0 ∗ semVal (sndCell c l) 0 ∗ sndPay X W c l)

/-- All cells open for use, and the levels. -/
def world (K : Dev nD × CK → ℕ) : sProp 𝕄 := iprop(book X W K ∗ levAts L lv)

instance world_persistent (K : Dev nD × CK → ℕ) : BI.Persistent (world X W K) := by unfold world; infer_instance

variable (K : Dev nD × CK → ℕ) (c : Dev nD) {k : PG F PUnit.{1}}

/-! ## Moves -/

/-- The first hop's copy leaves. -/
theorem leg_first {Q : PUnit → sProp 𝕄} (b : Bool) (s : Fin 2) (n : Dev nD) (hn : n = fwd b c) {S : Finset Leg} (hS : (b, 0, s) ∈ S) :
    iprop(world X W K ∗ due c (owedL c S) ∗ gear c (b, 0, s) ∗ room (fwd b c) (cM b) (slotR 1 s) ∗ sndPay X W c (b, 0, s))
      ⊢ iprop(((due c (owedL c (S.erase (b, 0, s))) ∗ flying (F := F) c (b, 0, s)) -∗ Runs c k Q)
        -∗ Runs c (sendP b 0 s n >>= fun _ => k) Q) := by
  unfold world gear flying
  iintro ⟨⟨#HB, #HL⟩, HO, ⟨Ht, Hc, Hr, Hs⟩, Hd, Hp⟩ Hk
  iapply (step_send X W K c b 0 s n hn hS) $$ [HO Ht Hd Hp]
  · isplitr; · iexact HB
    isplitl [HO]; · iexact HO
    isplitl [Ht]; · iexact Ht
    isplitl [Hd]; · iexact Hd
    iexact Hp
  iintro ⟨HO, Hcs⟩
  iapply Hk
  iframe HO Hcs Hc Hr Hs

/-- One hop: the arrival of one leg becomes, with the kept product, the next leg's copy. -/
theorem leg_hop {Q : PUnit → sProp 𝕄} (b : Bool) (h s : Fin 2) (n : Dev nD) (hn : n = fwd b c) {S : Finset Leg} (hS : (b, h.succ, s) ∈ S)
    (hS' : ∀ l ∈ S, h.val < l.2.1.val) :
    iprop(world X W K ∗ due c (owedL c S) ∗ flying c (b, h.castSucc, s) ∗ kept X W c b h.castSucc s ∗ gear c (b, h.succ, s)
        ∗ room (fwd b c) (cM b) (slotR h.succ.succ s))
      ⊢ iprop(((due c (owedL c (S.erase (b, h.succ, s))) ∗ taken (F := F) c (b, h.castSucc, s) ∗ kept X W c b h.castSucc s ∗ flying (F := F) c (b, h.succ, s))
          -∗ Runs c k Q)
        -∗ Runs c (hopP b h s n >>= fun _ => k) Q) := by
  unfold hopP
  rw [bind_assoc]
  simp only [bind_assoc]
  unfold world gear taken flying
  iintro ⟨⟨#HB, #HL⟩, HO, ⟨Hfs, Hfr, Hfa, Hfb⟩, Hkp, ⟨Ht, Hc, Hr, Hs⟩, Hd⟩ Hk
  iapply (step_recv X W K c b h.castSucc s (S := S) hS') $$ [HO Hfr Hfa]
  · isplitr; · iexact HB
    isplitr; · iexact HL
    isplitl [HO]; · iexact HO
    isplitl [Hfr] <;> iassumption
  iintro ⟨HO, Hfa, Hp⟩
  iapply (step_add X W c b h s) $$ [Hkp Hp]
  · isplitl [Hkp] <;> iassumption
  iintro ⟨Hkp, Hp⟩
  iapply (step_send X W K c b h.succ s n hn hS) $$ [HO Ht Hd Hp]
  · isplitr; · iexact HB
    isplitl [HO]; · iexact HO
    isplitl [Ht]; · iexact Ht
    isplitl [Hd] <;> iassumption
  iintro ⟨HO, Hcs⟩
  iapply Hk
  iframe HO Hcs Hc Hr Hs Hkp Hfs Hfa Hfb

/-- The same at hops and rows named otherwise. -/
theorem leg_hop_at {Q : PUnit → sProp 𝕄} (b : Bool) (h s : Fin 2) (h₀ h₁ : Fin 3) (r : Fin 4) (e₀ : h₀ = h.castSucc) (e₁ : h₁ = h.succ) (e₂ : r = h.succ.succ)
    (n : Dev nD) (hn : n = fwd b c) {S : Finset Leg} (hS : (b, h₁, s) ∈ S) (hS' : ∀ l ∈ S, h₀.val < l.2.1.val) :
    iprop(world X W K ∗ due c (owedL c S) ∗ flying c (b, h₀, s) ∗ kept X W c b h₀ s ∗ gear c (b, h₁, s) ∗ room (fwd b c) (cM b) (slotR r s))
      ⊢ iprop(((due c (owedL c (S.erase (b, h₁, s))) ∗ taken (F := F) c (b, h₀, s) ∗ kept X W c b h₀ s ∗ flying (F := F) c (b, h₁, s))
          -∗ Runs c k Q)
        -∗ Runs c (hopP b h s n >>= fun _ => k) Q) := by
  subst e₀ e₁ e₂
  exact leg_hop X W K c b h s n hn hS hS'

/-- The last hop: the arrival, with the kept product, fills a quarter of the result. -/
theorem leg_last {Q : PUnit → sProp 𝕄} (b : Bool) (s : Fin 2) {S : Finset Leg} (hS : ∀ l ∈ S, 2 < l.2.1.val) :
    iprop(world X W K ∗ due c (owedL c S) ∗ flying c (b, 2, s) ∗ kept X W c b 2 s ∗ room c oM (quadR b s))
      ⊢ iprop(((due c (owedL c S) ∗ taken (F := F) c (b, 2, s) ∗ kept X W c b 2 s ∗ room (F := F) c (cM b) (slotR 3 s)
          ∗ part c oM (quadR b s) (OUT X W c)) -∗ Runs c k Q)
        -∗ Runs c (lastP b s >>= fun _ => k) Q) := by
  unfold lastP
  simp only [bind_assoc]
  unfold world flying taken
  iintro ⟨⟨#HB, #HL⟩, HO, ⟨Hfs, Hfr, Hfa, Hfb⟩, Hkp, Ho⟩ Hk
  iapply (step_recv X W K c b 2 s (S := S) hS) $$ [HO Hfr Hfa]
  · isplitr; · iexact HB
    isplitr; · iexact HL
    isplitl [HO]; · iexact HO
    isplitl [Hfr] <;> iassumption
  iintro ⟨HO, Hfa, Hp⟩
  iapply (step_out X W c b s) $$ [Hkp Hp Ho]
  · isplitl [Hkp]; · iexact Hkp
    isplitl [Hp] <;> iassumption
  iintro ⟨Hkp, Hp, Ho⟩
  ihave Hp := (show rcvPay X W c (b, 2, s) ⊢ room c (cM b) (slotR 3 s) from part_room c (cM b) (slotR 3 s) (ARR X W c b)) $$ Hp
  iapply Hk
  iframe HO Hkp Hfs Hfa Hfb Hp Ho

/-- The departure is awaited, and both cells close. -/
theorem leg_end {Q : PUnit → sProp 𝕄} (b : Bool) (h : Fin 3) (s : Fin 2) {S : Finset Leg} (hS : S = ∅) :
    iprop(world X W K ∗ due c (owedL c S) ∗ taken c (b, h, s))
      ⊢ iprop(((due c (owedL c S) ∗ over X W c (b, h, s)) -∗ Runs c k Q) -∗ Runs c (sentP b h s >>= fun _ => k) Q) := by
  subst hS
  unfold world taken over
  iintro ⟨⟨#HB, #HL⟩, HO, Hfs, Hfa, Hfb⟩ Hk
  iapply (step_sent X W K c b h s) $$ [HO Hfs Hfb]
  · isplitr; · iexact HB
    isplitr; · iexact HL
    isplitl [HO]; · iexact HO
    isplitl [Hfs] <;> iassumption
  iintro ⟨HO, Hfb, Hp⟩
  imod (Rounds.cell_close ER (sched X W) (Set.mem_univ (K (c, some (false, (b, h, s))))) (fun h => h) (R := 0 + 1) (duties_later X W (sndCell c (b, h, s)))) $$ [Hfb] with Hzs
  · isplitr; · iapply (book_inv X W K (c, some (false, (b, h, s)))); iexact HB
    iexact Hfb
  imod (Rounds.cell_close ER (sched X W) (Set.mem_univ (K (c, some (true, (b, h, s))))) (fun h => h) (R := 0 + 1) (duties_later X W (rcvCell c (b, h, s)))) $$ [Hfa] with Hzr
  · isplitr; · iapply (book_inv X W K (c, some (true, (b, h, s)))); iexact HB
    iexact Hfa
  iapply Hk
  iframe HO Hzr Hzs Hp

end Cert.RingMatmul

end
-- ==== Proof.Body.lean ====
/-
# The whole body

The pieces a device starts with are cut out, the steps follow one another in program order, and the pieces are joined
again.
-/
module

public import proofs.«01_k».proof.Proof.Legs

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x512 .bf16) (W : Dev nD → Vec F S512x2048 .bf16)

/-! ## Families, listed -/

omit [FloatOps F] in
theorem legs_list (Φ : Leg → sProp 𝕄) : bigSep Finset.univ Φ = iprop(Φ (false, 0, 0) ∗ Φ (false, 0, 1) ∗ Φ (false, 1, 0) ∗ Φ (false, 1, 1) ∗ Φ (false, 2, 0) ∗ Φ (false, 2, 1) ∗ Φ (true, 0, 0) ∗ Φ (true, 0, 1) ∗ Φ (true, 1, 0) ∗ Φ (true, 1, 1) ∗ Φ (true, 2, 0) ∗ Φ (true, 2, 1)) :=
  bigSep_univ_eq_bigSepL [(false, 0, 0), (false, 0, 1), (false, 1, 0), (false, 1, 1), (false, 2, 0), (false, 2, 1), (true, 0, 0), (true, 0, 1), (true, 1, 0), (true, 1, 1), (true, 2, 0), (true, 2, 1)] (by decide) (by decide) Φ
omit [FloatOps F] in
theorem landing_list (c : Dev nD) (b : Bool) : (landing c b : sProp 𝕄)
    = iprop(room c (cM b) (slotR 1 0) ∗ room c (cM b) (slotR 1 1) ∗ room c (cM b) (slotR 2 0) ∗ room c (cM b) (slotR 2 1) ∗ room c (cM b) (slotR 3 0) ∗ room c (cM b) (slotR 3 1)) :=
  bigSep_univ_eq_bigSepL [(0, 0), (0, 1), (1, 0), (1, 1), (2, 0), (2, 1)] (by decide) (by decide) _

/-- A travelling buffer of unsaid contents is row 0 in halves and the landing rows, -/
theorem travel_cut (c : Dev nD) (b : Bool) :
    iprop(∃ Y, owns (c : Thread nD τ) (cM b) fullShare Y) ⊢ (iprop(room c (cM b) (slotR 0 0) ∗ room c (cM b) (slotR 0 1) ∗ landing c b) : sProp 𝕄) := by
  have h (Y : S4x512x1024.Idx → Elt F .bf16) : owns (c : Thread nD τ) (cM b) fullShare Y
      ⊢ (bigSep Finset.univ fun t : Fin 4 × Fin 2 => room c (cM b) (slotR t.1 t.2) : sProp 𝕄) :=
    (whole_parts c (cM b) (fun t : Fin 4 × Fin 2 => slotR t.1 t.2) (fun _ _ => rfl) slots_disjoint slots_cover Y).trans
      (bigSep_mono fun t _ => part_room c (cM b) _ Y)
  refine exists_elim fun Y => (h Y).trans ?_
  rw [landing_list]
  exact Entails.of_eq (bigSep_univ_eq_bigSepL [(0, 0), (0, 1), (1, 0), (1, 1), (2, 0), (2, 1), (3, 0), (3, 1)] (by decide) (by decide) _)
/-- and back. -/
theorem travel_join (c : Dev nD) (b : Bool) :
    (iprop(room c (cM b) (slotR 0 0) ∗ room c (cM b) (slotR 0 1) ∗ room c (cM b) (slotR 1 0) ∗ room c (cM b) (slotR 1 1) ∗ room c (cM b) (slotR 2 0) ∗ room c (cM b) (slotR 2 1) ∗ room c (cM b) (slotR 3 0) ∗ room c (cM b) (slotR 3 1)) : sProp 𝕄)
      ⊢ iprop(∃ Y, owns (c : Thread nD τ) (cM b) fullShare Y) :=
  (Entails.of_eq (bigSep_univ_eq_bigSepL [(0, 0), (0, 1), (1, 0), (1, 1), (2, 0), (2, 1), (3, 0), (3, 1)] (by decide) (by decide)
    (fun t : Fin 4 × Fin 2 => (room c (cM b) (slotR t.1 t.2) : sProp 𝕄))).symm).trans
    (rooms_whole c (cM b) (fun t : Fin 4 × Fin 2 => slotR t.1 t.2) (fun _ _ => rfl) slots_disjoint slots_cover)

/-- The buffer of kept products in halves, -/
theorem store_cut (c : Dev nD) (b : Bool) :
    iprop(∃ Y, owns (c : Thread nD τ) (pM b) fullShare Y) ⊢ (iprop(room c (pM b) (halfR 0 0) ∗ room c (pM b) (halfR 0 1) ∗ room c (pM b) (halfR 1 0) ∗ room c (pM b) (halfR 1 1) ∗ room c (pM b) (halfR 2 0) ∗ room c (pM b) (halfR 2 1)) : sProp 𝕄) :=
  exists_elim fun Y => ((whole_parts c (pM b) (fun t : Fin 3 × Fin 2 => halfR t.1 t.2) (fun _ _ => rfl) halves_disjoint halves_cover Y).trans
    (bigSep_mono fun t _ => part_room c (pM b) _ Y)).trans
      (Entails.of_eq (bigSep_univ_eq_bigSepL [(0, 0), (0, 1), (1, 0), (1, 1), (2, 0), (2, 1)] (by decide) (by decide) _))
/-- and back from the products. -/
theorem store_join (c : Dev nD) (b : Bool) :
    (iprop(kept X W c b 0 0 ∗ kept X W c b 0 1 ∗ kept X W c b 1 0 ∗ kept X W c b 1 1 ∗ kept X W c b 2 0 ∗ kept X W c b 2 1) : sProp 𝕄)
      ⊢ iprop(∃ Y, owns (c : Thread nD τ) (pM b) fullShare Y) :=
  ((Entails.of_eq (bigSep_univ_eq_bigSepL [(0, 0), (0, 1), (1, 0), (1, 1), (2, 0), (2, 1)] (by decide) (by decide)
    (fun t : Fin 3 × Fin 2 => (kept X W c b t.1 t.2 : sProp 𝕄))).symm).trans
    (bigSep_mono fun t _ => part_room c (pM b) (halfR t.1 t.2) (PT X W c b))).trans
    (rooms_whole c (pM b) (fun t : Fin 3 × Fin 2 => halfR t.1 t.2) (fun _ _ => rfl) halves_disjoint halves_cover)

/-- The result in quarters of unsaid contents, -/
theorem result_cut (c : Dev nD) :
    iprop(∃ Y, owns (c : Thread nD τ) oM fullShare Y) ⊢ (iprop(room c oM (quadR false 0) ∗ room c oM (quadR false 1) ∗ room c oM (quadR true 0) ∗ room c oM (quadR true 1)) : sProp 𝕄) :=
  exists_elim fun Y => ((whole_parts c oM (fun t : Bool × Fin 2 => quadR t.1 t.2) (fun _ _ => rfl) quads_disjoint quads_cover Y).trans
    (bigSep_mono fun t _ => part_room c oM _ Y)).trans
      (Entails.of_eq (bigSep_univ_eq_bigSepL [(false, 0), (false, 1), (true, 0), (true, 1)] (by decide) (by decide) _))
/-- and whole again, at its contents. -/
theorem result_join (c : Dev nD) :
    (iprop(part c oM (quadR false 0) (OUT X W c) ∗ part c oM (quadR false 1) (OUT X W c) ∗ part c oM (quadR true 0) (OUT X W c) ∗ part c oM (quadR true 1) (OUT X W c)) : sProp 𝕄)
      ⊢ owns (c : Thread nD τ) oM fullShare (OUT X W c) :=
  (Entails.of_eq (bigSep_univ_eq_bigSepL [(false, 0), (false, 1), (true, 0), (true, 1)] (by decide) (by decide)
    (fun t : Bool × Fin 2 => (part c oM (quadR t.1 t.2) (OUT X W c) : sProp 𝕄))).symm).trans
    (parts_whole c oM (fun t : Bool × Fin 2 => quadR t.1 t.2) (fun _ _ => rfl) quads_disjoint quads_cover (OUT X W c))

/-! ## The copies still owed, in the order of the sends -/

abbrev S0 : Finset Leg := Finset.univ
abbrev S1 : Finset Leg := S0.erase (false, 0, 0)
abbrev S2 : Finset Leg := S1.erase (false, 0, 1)
abbrev S3 : Finset Leg := S2.erase (true, 0, 0)
abbrev S4 : Finset Leg := S3.erase (true, 0, 1)
abbrev S5 : Finset Leg := S4.erase (false, 1, 0)
abbrev S6 : Finset Leg := S5.erase (true, 1, 0)
abbrev S7 : Finset Leg := S6.erase (false, 1, 1)
abbrev S8 : Finset Leg := S7.erase (true, 1, 1)
abbrev S9 : Finset Leg := S8.erase (false, 2, 0)
abbrev S10 : Finset Leg := S9.erase (true, 2, 0)
abbrev S11 : Finset Leg := S10.erase (false, 2, 1)
abbrev S12 : Finset Leg := S11.erase (true, 2, 1)

/-! ## Before and after -/

/-- What device `c` brings: its duties, credits and positions, its operands, and buffers of unsaid contents. -/
def before (c : Dev nD) : sProp 𝕄 :=
  iprop(due c (O₀ c) ∗ dutyTok ER (barCell (bwd false c)) 0 false ∗ dutyTok ER (barCell (bwd true c)) 0 true
    ∗ cred (tallyAt (barCell c) () 2) ∗ atPos ER (barCell c) 0 ∅ 0 ∗ (bigSep Finset.univ fun l : Leg => gear c l)
    ∗ owns (c : Thread nD τ) xM fullShare (X c) ∗ owns (c : Thread nD τ) wM fullShare (W c)
    ∗ (∃ Y, owns (c : Thread nD τ) oM fullShare Y)
    ∗ (∃ Y, owns (c : Thread nD τ) (cM false) fullShare Y) ∗ (∃ Y, owns (c : Thread nD τ) (cM true) fullShare Y)
    ∗ (∃ Y, owns (c : Thread nD τ) (pM false) fullShare Y) ∗ (∃ Y, owns (c : Thread nD τ) (pM true) fullShare Y))

/-- What it ends with: nothing owed, every cell closed at zero, its operands unchanged and its result. -/
def later (c : Dev nD) : sProp 𝕄 :=
  iprop(due c 0 ∗ semVal (barCell c) 0 ∗ (bigSep Finset.univ fun l : Leg => iprop(semVal (rcvCell c l) 0 ∗ semVal (sndCell c l) 0))
    ∗ owns (c : Thread nD τ) xM fullShare (X c) ∗ owns (c : Thread nD τ) wM fullShare (W c)
    ∗ owns (c : Thread nD τ) oM fullShare (OUT X W c)
    ∗ (∃ Y, owns (c : Thread nD τ) (cM false) fullShare Y) ∗ (∃ Y, owns (c : Thread nD τ) (cM true) fullShare Y)
    ∗ (∃ Y, owns (c : Thread nD τ) (pM false) fullShare Y) ∗ (∃ Y, owns (c : Thread nD τ) (pM true) fullShare Y))

variable (K : Dev nD × CK → ℕ) (c : Dev nD)

/-- Twelve finished legs are their closed cells and rows 0 to 2 of both travelling buffers. -/
theorem overs_out :
    (iprop(over X W c (false, 0, 0) ∗ over X W c (false, 0, 1) ∗ over X W c (false, 1, 0) ∗ over X W c (false, 1, 1) ∗ over X W c (false, 2, 0) ∗ over X W c (false, 2, 1) ∗ over X W c (true, 0, 0) ∗ over X W c (true, 0, 1) ∗ over X W c (true, 1, 0) ∗ over X W c (true, 1, 1) ∗ over X W c (true, 2, 0) ∗ over X W c (true, 2, 1)) : sProp 𝕄)
      ⊢ iprop((bigSep Finset.univ fun l : Leg => iprop(semVal (rcvCell c l) 0 ∗ semVal (sndCell c l) 0))
        ∗ (room c (cM false) (slotR 0 0) ∗ room c (cM false) (slotR 0 1) ∗ room c (cM false) (slotR 1 0) ∗ room c (cM false) (slotR 1 1) ∗ room c (cM false) (slotR 2 0) ∗ room c (cM false) (slotR 2 1))
        ∗ (room c (cM true) (slotR 0 0) ∗ room c (cM true) (slotR 0 1) ∗ room c (cM true) (slotR 1 0) ∗ room c (cM true) (slotR 1 1) ∗ room c (cM true) (slotR 2 0) ∗ room c (cM true) (slotR 2 1))) := by
  have h : (bigSep Finset.univ fun l : Leg => (over X W c l : sProp 𝕄))
      ⊢ iprop((bigSep Finset.univ fun l : Leg => iprop(semVal (rcvCell c l) 0 ∗ semVal (sndCell c l) 0))
        ∗ bigSep Finset.univ fun l : Leg => room c (cM l.1) (slotR l.2.1.castSucc l.2.2)) := by
    have hl (l : Leg) : over X W c l ⊢ iprop((semVal (rcvCell c l) 0 ∗ semVal (sndCell c l) 0) ∗ room c (cM l.1) (slotR l.2.1.castSucc l.2.2)) := by
      unfold over
      iintro ⟨Hr, Hs, Hp⟩
      isplitl [Hr Hs]
      · isplitl [Hr] <;> iassumption
      iapply (show sndPay X W c l ⊢ room c (cM l.1) (slotR l.2.1.castSucc l.2.2) from part_room c (cM l.1) _ (SENT X W c l.1)) $$ Hp
    rw [← bigSep_sep']
    exact bigSep_mono fun l _ => hl l
  rw [legs_list, legs_list (fun l : Leg => (room c (cM l.1) (slotR l.2.1.castSucc l.2.2) : sProp 𝕄))] at h
  refine h.trans ?_
  iintro ⟨Hc, Vf00, Vf01, Vf10, Vf11, Vf20, Vf21, Vb00, Vb01, Vb10, Vb11, Vb20, Vb21⟩
  isplitl [Hc]; · iexact Hc
  isplitl [Vf00 Vf01 Vf10 Vf11 Vf20 Vf21]
  · isplitl [Vf00]; · iexact Vf00
    isplitl [Vf01]; · iexact Vf01
    isplitl [Vf10]; · iexact Vf10
    isplitl [Vf11]; · iexact Vf11
    isplitl [Vf20]; · iexact Vf20
    iexact Vf21
  isplitl [Vb00]; · iexact Vb00
  isplitl [Vb01]; · iexact Vb01
  isplitl [Vb10]; · iexact Vb10
  isplitl [Vb11]; · iexact Vb11
  isplitl [Vb20]; · iexact Vb20
  iexact Vb21

set_option maxHeartbeats 4000000 in
/-- The body, from what the device brings to what it ends with. -/
theorem body_runs {Q : PUnit → sProp 𝕄} :
    iprop(world X W K ∗ before X W c) ⊢ iprop((later X W c -∗ Q ⟨⟩) -∗ Runs c bodyP Q) := by
  rw [body_flat]
  simp only [Prog.lift, Prog.bind_op, Prog.bind_ret, wp_deviceId]
  have hend : (sentP true 2 1 : PG F PUnit) = (sentP true 2 1 >>= fun _ => .ret ⟨⟩) := rfl
  unfold flatAt before
  rw [hend]
  iintro ⟨#HW, HO, Ht0, Ht1, Hcb, Hab, Hg, Hx, Hw, Ho, Hc0, Hc1, Hp0, Hp1⟩ Hk
  ihave Hg := (Entails.of_eq (legs_list (F := F) fun l => gear c l)) $$ Hg
  icases Hg with ⟨Gf00, Gf01, Gf10, Gf11, Gf20, Gf21, Gb00, Gb01, Gb10, Gb11, Gb20, Gb21⟩
  ihave Hc0 := (travel_cut c false) $$ Hc0
  icases Hc0 with ⟨Hf0, Hf1, Hl0⟩
  ihave Hc1 := (travel_cut c true) $$ Hc1
  icases Hc1 with ⟨Hb0, Hb1, Hl1⟩
  ihave Hp0 := (store_cut c false) $$ Hp0
  icases Hp0 with ⟨Pf00, Pf01, Pf10, Pf11, Pf20, Pf21⟩
  ihave Hp1 := (store_cut c true) $$ Hp1
  icases Hp1 with ⟨Pb00, Pb01, Pb10, Pb11, Pb20, Pb21⟩
  ihave Ho := (result_cut c) $$ Ho
  icases Ho with ⟨Qf0, Qf1, Qb0, Qb1⟩
  ihave #HB := (show world X W K ⊢ book X W K by unfold world; iintro ⟨H, -⟩; iexact H) $$ HW
  ihave #HL := (show world X W K ⊢ levAts L lv by unfold world; iintro ⟨-, H⟩; iexact H) $$ HW
  -- the handshake
  iapply (step_signal X W K c false _ (dev1_eq c) (O := owedL c Finset.univ + tallyAt (barCell (bwd true c)) () 1) rfl) $$ [HO Ht0 Hl0]
  · iframe HB HO Ht0 Hl0
  iintro HO
  iapply (step_signal X W K c true _ (dev2_eq c) (O := owedL c Finset.univ) rfl) $$ [HO Ht1 Hl1]
  · iframe HB HO Ht1 Hl1
  iintro HO
  iapply (step_barrier X W K c) $$ [HO Hcb Hab]
  · iframe HB HL HO Hcb Hab
  iintro ⟨HO, Hab, Hl0, Hl1⟩
  imod (Rounds.cell_close ER (sched X W) (Set.mem_univ (K (c, none))) (fun h => h) (R := 0 + 1) (duties_later X W (barCell c))) $$ [Hab] with Hzb
  · isplitr; · iapply (book_inv X W K (c, none)); iexact HB
    iexact Hab
  ihave Hl0 := (Entails.of_eq (landing_list (F := F) (fwd false c) false)) $$ Hl0
  ihave Hl1 := (Entails.of_eq (landing_list (F := F) (fwd true c) true)) $$ Hl1
  icases Hl0 with ⟨Rf00, Rf01, Rf10, Rf11, Rf20, Rf21⟩
  icases Hl1 with ⟨Rb00, Rb01, Rb10, Rb11, Rb20, Rb21⟩
  -- the first products and their copies
  iapply (step_head X W c false _ _ (off_head_false c)) $$ [Hx Hw Hf0 Hf1]
  · iframe Hx Hw Hf0 Hf1
  iintro ⟨Hx, Hw, Hf0, Hf1⟩
  iapply (leg_first X W K c false 0 _ (dev3_eq c) (S := S0) (by decide)) $$ [HO Gf00 Rf00 Hf0]
  · iframe HW HO Gf00 Rf00 Hf0
  iintro ⟨HO, Lf00⟩
  iapply (leg_first X W K c false 1 _ (dev4_eq c) (S := S1) (by decide)) $$ [HO Gf01 Rf01 Hf1]
  · iframe HW HO Gf01 Rf01 Hf1
  iintro ⟨HO, Lf01⟩
  iapply (step_head X W c true _ _ (off_head_true c)) $$ [Hx Hw Hb0 Hb1]
  · iframe Hx Hw Hb0 Hb1
  iintro ⟨Hx, Hw, Hb0, Hb1⟩
  iapply (leg_first X W K c true 0 _ (dev5_eq c) (S := S2) (by decide)) $$ [HO Gb00 Rb00 Hb0]
  · iframe HW HO Gb00 Rb00 Hb0
  iintro ⟨HO, Lb00⟩
  iapply (leg_first X W K c true 1 _ (dev6_eq c) (S := S3) (by decide)) $$ [HO Gb01 Rb01 Hb1]
  · iframe HW HO Gb01 Rb01 Hb1
  iintro ⟨HO, Lb01⟩
  -- the products kept
  iapply (step_keep X W c false 0 _ _ (off_keep_false0 c)) $$ [Hx Hw Pf00 Pf01]
  · iframe Hx Hw Pf00 Pf01
  iintro ⟨Hx, Hw, Pf00, Pf01⟩
  iapply (step_keep X W c true 0 _ _ (off_keep_true0 c)) $$ [Hx Hw Pb00 Pb01]
  · iframe Hx Hw Pb00 Pb01
  iintro ⟨Hx, Hw, Pb00, Pb01⟩
  iapply (step_keep X W c false 1 _ _ (off_keep_false1 c)) $$ [Hx Hw Pf10 Pf11]
  · iframe Hx Hw Pf10 Pf11
  iintro ⟨Hx, Hw, Pf10, Pf11⟩
  iapply (step_keep X W c true 1 _ _ (off_keep_true1 c)) $$ [Hx Hw Pb10 Pb11]
  · iframe Hx Hw Pb10 Pb11
  iintro ⟨Hx, Hw, Pb10, Pb11⟩
  iapply (step_keep X W c false 2 _ _ (off_keep_false2 c)) $$ [Hx Hw Pf20 Pf21]
  · iframe Hx Hw Pf20 Pf21
  iintro ⟨Hx, Hw, Pf20, Pf21⟩
  iapply (step_keep X W c true 2 _ _ (off_keep_true2 c)) $$ [Hx Hw Pb20 Pb21]
  · iframe Hx Hw Pb20 Pb21
  iintro ⟨Hx, Hw, Pb20, Pb21⟩
  -- the hops
  iapply (leg_hop_at X W K c false 0 0 0 1 2 rfl rfl rfl _ (dev7_eq c) (S := S4) (by decide) (by decide)) $$ [HO Lf00 Pf00 Gf10 Rf10]
  · iframe HW HO Lf00 Pf00 Gf10 Rf10
  iintro ⟨HO, Lf00, Pf00, Lf10⟩
  iapply (leg_hop_at X W K c true 0 0 0 1 2 rfl rfl rfl _ (dev8_eq c) (S := S5) (by decide) (by decide)) $$ [HO Lb00 Pb00 Gb10 Rb10]
  · iframe HW HO Lb00 Pb00 Gb10 Rb10
  iintro ⟨HO, Lb00, Pb00, Lb10⟩
  iapply (leg_hop_at X W K c false 0 1 0 1 2 rfl rfl rfl _ (dev9_eq c) (S := S6) (by decide) (by decide)) $$ [HO Lf01 Pf01 Gf11 Rf11]
  · iframe HW HO Lf01 Pf01 Gf11 Rf11
  iintro ⟨HO, Lf01, Pf01, Lf11⟩
  iapply (leg_hop_at X W K c true 0 1 0 1 2 rfl rfl rfl _ (dev10_eq c) (S := S7) (by decide) (by decide)) $$ [HO Lb01 Pb01 Gb11 Rb11]
  · iframe HW HO Lb01 Pb01 Gb11 Rb11
  iintro ⟨HO, Lb01, Pb01, Lb11⟩
  iapply (leg_hop_at X W K c false 1 0 1 2 3 rfl rfl rfl _ (dev11_eq c) (S := S8) (by decide) (by decide)) $$ [HO Lf10 Pf10 Gf20 Rf20]
  · iframe HW HO Lf10 Pf10 Gf20 Rf20
  iintro ⟨HO, Lf10, Pf10, Lf20⟩
  iapply (leg_hop_at X W K c true 1 0 1 2 3 rfl rfl rfl _ (dev12_eq c) (S := S9) (by decide) (by decide)) $$ [HO Lb10 Pb10 Gb20 Rb20]
  · iframe HW HO Lb10 Pb10 Gb20 Rb20
  iintro ⟨HO, Lb10, Pb10, Lb20⟩
  iapply (leg_hop_at X W K c false 1 1 1 2 3 rfl rfl rfl _ (dev13_eq c) (S := S10) (by decide) (by decide)) $$ [HO Lf11 Pf11 Gf21 Rf21]
  · iframe HW HO Lf11 Pf11 Gf21 Rf21
  iintro ⟨HO, Lf11, Pf11, Lf21⟩
  iapply (leg_hop_at X W K c true 1 1 1 2 3 rfl rfl rfl _ (dev14_eq c) (S := S11) (by decide) (by decide)) $$ [HO Lb11 Pb11 Gb21 Rb21]
  · iframe HW HO Lb11 Pb11 Gb21 Rb21
  iintro ⟨HO, Lb11, Pb11, Lb21⟩
  -- the last sums
  iapply (leg_last X W K c false 0 (S := S12) (by decide)) $$ [HO Lf20 Pf20 Qf0]
  · iframe HW HO Lf20 Pf20 Qf0
  iintro ⟨HO, Lf20, Pf20, Tf0, Qf0⟩
  iapply (leg_last X W K c true 0 (S := S12) (by decide)) $$ [HO Lb20 Pb20 Qb0]
  · iframe HW HO Lb20 Pb20 Qb0
  iintro ⟨HO, Lb20, Pb20, Tb0, Qb0⟩
  iapply (leg_last X W K c false 1 (S := S12) (by decide)) $$ [HO Lf21 Pf21 Qf1]
  · iframe HW HO Lf21 Pf21 Qf1
  iintro ⟨HO, Lf21, Pf21, Tf1, Qf1⟩
  iapply (leg_last X W K c true 1 (S := S12) (by decide)) $$ [HO Lb21 Pb21 Qb1]
  · iframe HW HO Lb21 Pb21 Qb1
  iintro ⟨HO, Lb21, Pb21, Tb1, Qb1⟩
  -- the departures
  iapply (leg_end X W K c false 0 0 (S := S12) (by decide)) $$ [HO Lf00]
  · iframe HW HO Lf00
  iintro ⟨HO, Lf00⟩
  iapply (leg_end X W K c true 0 0 (S := S12) (by decide)) $$ [HO Lb00]
  · iframe HW HO Lb00
  iintro ⟨HO, Lb00⟩
  iapply (leg_end X W K c false 0 1 (S := S12) (by decide)) $$ [HO Lf01]
  · iframe HW HO Lf01
  iintro ⟨HO, Lf01⟩
  iapply (leg_end X W K c true 0 1 (S := S12) (by decide)) $$ [HO Lb01]
  · iframe HW HO Lb01
  iintro ⟨HO, Lb01⟩
  iapply (leg_end X W K c false 1 0 (S := S12) (by decide)) $$ [HO Lf10]
  · iframe HW HO Lf10
  iintro ⟨HO, Lf10⟩
  iapply (leg_end X W K c true 1 0 (S := S12) (by decide)) $$ [HO Lb10]
  · iframe HW HO Lb10
  iintro ⟨HO, Lb10⟩
  iapply (leg_end X W K c false 1 1 (S := S12) (by decide)) $$ [HO Lf11]
  · iframe HW HO Lf11
  iintro ⟨HO, Lf11⟩
  iapply (leg_end X W K c true 1 1 (S := S12) (by decide)) $$ [HO Lb11]
  · iframe HW HO Lb11
  iintro ⟨HO, Lb11⟩
  iapply (leg_end X W K c false 2 0 (S := S12) (by decide)) $$ [HO Lf20]
  · iframe HW HO Lf20
  iintro ⟨HO, Lf20⟩
  iapply (leg_end X W K c true 2 0 (S := S12) (by decide)) $$ [HO Lb20]
  · iframe HW HO Lb20
  iintro ⟨HO, Lb20⟩
  iapply (leg_end X W K c false 2 1 (S := S12) (by decide)) $$ [HO Lf21]
  · iframe HW HO Lf21
  iintro ⟨HO, Lf21⟩
  iapply (leg_end X W K c true 2 1 (S := S12) (by decide)) $$ [HO Lb21]
  · iframe HW HO Lb21
  iintro ⟨HO, Lb21⟩
  -- everything together again
  unfold Runs
  rw [wp_ret]
  imodintro
  iapply Hk
  ihave Hv := (overs_out X W c) $$ [Lf00 Lf01 Lf10 Lf11 Lf20 Lf21 Lb00 Lb01 Lb10 Lb11 Lb20 Lb21]
  · iframe Lf00 Lf01 Lf10 Lf11 Lf20 Lf21 Lb00 Lb01 Lb10 Lb11 Lb20 Lb21
  icases Hv with ⟨Hz, ⟨Rf00, Rf01, Rf10, Rf11, Rf20, Rf21⟩, Rb00, Rb01, Rb10, Rb11, Rb20, Rb21⟩
  ihave Hc0 := (travel_join c false) $$ [Rf00 Rf01 Rf10 Rf11 Rf20 Rf21 Tf0 Tf1]
  · iframe Rf00 Rf01 Rf10 Rf11 Rf20 Rf21 Tf0 Tf1
  ihave Hp0 := (store_join X W c false) $$ [Pf00 Pf01 Pf10 Pf11 Pf20 Pf21]
  · iframe Pf00 Pf01 Pf10 Pf11 Pf20 Pf21
  ihave Hc1 := (travel_join c true) $$ [Rb00 Rb01 Rb10 Rb11 Rb20 Rb21 Tb0 Tb1]
  · iframe Rb00 Rb01 Rb10 Rb11 Rb20 Rb21 Tb0 Tb1
  ihave Hp1 := (store_join X W c true) $$ [Pb00 Pb01 Pb10 Pb11 Pb20 Pb21]
  · iframe Pb00 Pb01 Pb10 Pb11 Pb20 Pb21
  ihave Ho := (result_join X W c) $$ [Qf0 Qf1 Qb0 Qb1]
  · iframe Qf0 Qf1 Qb0 Qb1
  unfold later
  isplitl [HO]
  · iapply (Entails.of_eq (congrArg (due c) ((congrArg (owedL c) (show S12 = ∅ by decide)).trans (owedL_empty c)))) $$ HO
  isplitl [Hzb]; · iexact Hzb
  isplitl [Hz]; · iexact Hz
  isplitl [Hx]; · iexact Hx
  isplitl [Hw]; · iexact Hw
  isplitl [Ho]; · iexact Ho
  isplitl [Hc0]; · iexact Hc0
  isplitl [Hc1]; · iexact Hc1
  isplitl [Hp0] <;> iassumption

end Cert.RingMatmul

end
-- ==== Proof.Launch.lean ====
/-
# The launch and the run

All semaphores start at zero. They become the protocol's cells, each device gets the duties it pays, its credits and
its positions, runs the body once, and hands the closed cells back. `run_main` is the run of the whole program over any
float values: it ends, leaves every semaphore counter at zero and every window's array at stated contents.
-/
module

public import proofs.«01_k».proof.Proof.Body
public import proofs.«01_k».proof.Proof.Gen.KernelIdeal.Points

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Families over cells -/

omit [FloatOps F] in
theorem bools (Φ : Bool → sProp 𝕄) : bigSep Finset.univ Φ = iprop(Φ false ∗ Φ true) :=
  bigSep_univ_eq_bigSepL [false, true] (by decide) (by decide) Φ

omit [FloatOps F] in
/-- A family over a device's cells: the barrier's, the sends', the receives'. -/
theorem cells_split (Φ : CK → sProp 𝕄) : bigSep Finset.univ Φ
    = iprop(Φ none ∗ (bigSep Finset.univ fun l : Leg => Φ (some (false, l))) ∗ bigSep Finset.univ fun l : Leg => Φ (some (true, l))) := by
  rw [bigSep_univ_equiv (Equiv.optionEquivSumPUnit.{0} (Bool × Leg)).symm, bigSep_univ_sum, bigSep_univ_prod, bools]
  rw [show (bigSep Finset.univ fun u : PUnit.{1} => Φ ((Equiv.optionEquivSumPUnit.{0} (Bool × Leg)).symm (.inr u))) = Φ none from
    bigSep_univ_eq_bigSepL [PUnit.unit] (by decide) (by decide) _]
  have hc (A B : sProp 𝕄) : iprop(A ∗ B) = iprop(B ∗ A) := BI.Entails.antisymm BI.sep_comm BI.sep_comm
  exact hc _ _

theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The protocol's cells. -/
def allCells : Finset (GSem nD τ sig) := Finset.univ.map ⟨kcell, kcell_inj⟩

/-- A device's duties: two on its barrier cell, one on every other cell. -/
abbrev Duty : Type := Bool ⊕ (Bool × Leg)
/-- The token a duty is minted as. -/
def tokenOf (cd : Dev nD × Duty) : GSem nD τ sig × ℕ × Bool :=
  (kcell (cd.1, cd.2.elim (fun _ => none) some), 0, cd.2.elim id fun _ => false)
theorem tokenOf_inj : Function.Injective tokenOf := by
  rintro ⟨c, d⟩ ⟨c', d'⟩ h
  have h1 := kcell_inj (congrArg Prod.fst h)
  have h2 : (d.elim id fun _ => false) = d'.elim id fun _ => false := congrArg (fun x => x.2.2) h
  have hc : c = c' := congrArg Prod.fst h1
  have hk : (d.elim (fun _ => none) some : CK) = d'.elim (fun _ => none) some := congrArg Prod.snd h1
  rcases d with d | d <;> rcases d' with d' | d'
  · rw [hc, show d = d' from h2]
  · exact absurd hk (by intro h; cases h)
  · exact absurd hk (by intro h; cases h)
  · rw [hc, Option.some.inj hk]
def allToks : Finset (GSem nD τ sig × ℕ × Bool) := Finset.univ.map ⟨tokenOf, tokenOf_inj⟩

/-- The ghost state at launch: the staging pipeline's and the protocol's. -/
def u₀ : UU := (initOf (Pipeline.cells cfgs cellOf_inj) (Pipeline.launchToks cfgs cellOf_inj), initOf allCells allToks)

/-- The tokens of device `c`'s own cells. -/
def minted (c : Dev nD) : sProp 𝕄 :=
  iprop((dutyTok ER (barCell c) 0 false ∗ dutyTok ER (barCell c) 0 true)
    ∗ (bigSep Finset.univ fun l : Leg => dutyTok ER (sndCell c l) 0 false) ∗ bigSep Finset.univ fun l : Leg => dutyTok ER (rcvCell c l) 0 false)

section Ghost
variable (X : Dev nD → Vec F S2048x512 .bf16) (W : Dev nD → Vec F S512x2048 .bf16)

/-- What the launch deals device `c`. -/
def dealt (c : Dev nD) : sProp 𝕄 :=
  iprop((bigSep Finset.univ fun k : CK => roundState ER (sched X W) (kcell (c, k)) 0)
    ∗ ((bigSep Finset.univ fun k : CK => atPos ER (kcell (c, k)) 0 ∅ 0) ∗ bigSep Finset.univ fun k : CK => reached ER (kcell (c, k)) 0) ∗ minted c)

theorem fund_all : BI.own (ER (initOf allCells allToks)) ⊢ (|==> bigSep Finset.univ (dealt X W) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rw [bigSep_univ_sum, bigSep_univ_prod, bools, bools]; rfl
  iintro HX
  imod (Rounds.fund ER (sched X W) allCells allToks) $$ HX with ⟨Hst, Hr, Hat, Htok⟩
  imodintro
  ihave Hst := (Entails.of_eq (hX fun g => roundState ER (sched X W) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  iframe Hst Hat Hr Htok

/-! ## The semaphores -/

/-- The kernel's own semaphores: the sends' and the receives'. -/
abbrev osem : Bool × Leg → SemLoc sig := fun k => csem (some k)

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem ownSems_eq (c : Dev nD) : (Pipeline.ownSems0 (Ix := Unit) (Name := ℕ) (U := UU) (Lvl := ℕ) (Val := Elt F) (τ := τ) osem c : sProp 𝕄)
    = iprop((bigSep Finset.univ fun l : Leg => semVal (sndCell c l) 0) ∗ bigSep Finset.univ fun l : Leg => semVal (rcvCell c l) 0) := by
  unfold Pipeline.ownSems0; rw [bigSep_univ_prod, bools]; rfl

/-- One device's cells open. -/
theorem core_open (c : Dev nD) :
    iprop(Pipeline.ownSems0 (Ix := Unit) (Name := ℕ) (U := UU) (Lvl := ℕ) (Val := Elt F) (τ := τ) osem c ∗ unscopedSems0 c ∗ dealt X W c)
      ⊢ |={Set.univ}=> iprop((bigSep Finset.univ fun k : CK => iprop(∃ κ : ℕ, cellInv ER (sched X W) κ (kcell (c, k))))
          ∗ ((bigSep Finset.univ fun k : CK => atPos ER (kcell (c, k)) 0 ∅ 0) ∗ bigSep Finset.univ fun k : CK => reached ER (kcell (c, k)) 0) ∗ minted c) := by
  have hopen : iprop((bigSep Finset.univ fun k : CK => semVal (kcell (c, k)) 0) ∗ bigSep Finset.univ fun k : CK => roundState ER (sched X W) (kcell (c, k)) 0)
      ⊢ (|={Set.univ}=> bigSep Finset.univ fun k => iprop(∃ κ : ℕ, cellInv ER (sched X W) κ (kcell (c, k))) : sProp 𝕄) := by
    rw [← bigSep_sep']
    exact (bigSep_mono fun k _ => (Rounds.body_intro ER (sched X W) (kcell (c, k))).trans inv_alloc).trans (bigSep_fupd _ _)
  rw [ownSems_eq, unscoped_eq]
  unfold dealt
  iintro ⟨⟨Hs, Hr⟩, Hb, Hst, Hat, Htok⟩
  ihave Hv := (Entails.of_eq (cells_split (F := F) fun k => semVal (kcell (c, k)) 0).symm) $$ [Hs Hr Hb]
  · isplitl [Hb]; · iexact Hb
    isplitl [Hs]; · iexact Hs
    iexact Hr
  imod hopen $$ [Hv Hst] with Hinv
  · isplitl [Hv] <;> iassumption
  imodintro
  iframe Hinv Hat Htok

/-! ## Who pays what -/

/-- The tokens of the duties that device `c` pays. -/
def pays (c : Dev nD) : sProp 𝕄 :=
  iprop((dutyTok ER (barCell (bwd false c)) 0 false ∗ dutyTok ER (barCell (bwd true c)) 0 true) ∗ bigSep Finset.univ fun l : Leg => ticket c l)

omit [FloatOps F] in
/-- A barrier's token goes to the device it came round to, a receive's to the sender. -/
theorem pays_around : (bigSep Finset.univ fun c : Dev nD => (minted c : sProp 𝕄)) ⊢ bigSep Finset.univ fun c : Dev nD => pays c := by
  have hr : (bigSep Finset.univ fun c : Dev nD => bigSep Finset.univ fun l : Leg => (dutyTok ER (rcvCell c l) 0 false : sProp 𝕄))
      = bigSep Finset.univ fun c : Dev nD => bigSep Finset.univ fun l : Leg => (dutyTok ER (rcvCell (fwd l.1 c) l) 0 false : sProp 𝕄) := by
    rw [bigSep_univ_comm, bigSep_univ_comm (fun (c : Dev nD) (l : Leg) => (dutyTok ER (rcvCell (fwd l.1 c) l) 0 false : sProp 𝕄))]
    exact bigSep_congr fun l _ => bigSep_univ_equiv (turn l.1) fun c => (dutyTok ER (rcvCell c l) 0 false : sProp 𝕄)
  unfold minted pays ticket
  simp only [bigSep_sep']
  rw [hr, bigSep_univ_equiv (turn true) (fun c : Dev nD => (dutyTok ER (barCell c) 0 false : sProp 𝕄)),
    bigSep_univ_equiv (turn false) (fun c : Dev nD => (dutyTok ER (barCell c) 0 true : sProp 𝕄))]
  exact BI.Entails.refl _

/-- What the opening of all cells leaves device `c`. -/
def opened (c : Dev nD) : sProp 𝕄 :=
  iprop(∃ K, book X W K ∗ (bigSep Finset.univ fun k : CK => atPos ER (kcell (c, k)) 0 ∅ 0) ∗ pays c)

theorem open_all :
    (bigSep Finset.univ fun c => iprop(Pipeline.ownSems0 (Ix := Unit) (Name := ℕ) (U := UU) (Lvl := ℕ) (Val := Elt F) (τ := τ) osem c ∗ unscopedSems0 c ∗ dealt X W c) : sProp 𝕄)
      ⊢ |={Set.univ}=> bigSep Finset.univ (opened X W) := by
  have hone (K : Dev nD × CK → ℕ) (c : Dev nD) : iprop(book X W K ∗ ((bigSep Finset.univ fun k : CK => atPos ER (kcell (c, k)) 0 ∅ 0) ∗ pays c)) ⊢ opened X W c := by
    unfold opened
    iintro ⟨HB, Ha, Hp⟩
    iexists K
    iframe HB Ha Hp
  have hgoal : (bigSep Finset.univ fun c : Dev nD => iprop((bigSep Finset.univ fun k : CK => iprop(∃ κ : ℕ, cellInv ER (sched X W) κ (kcell (c, k))))
          ∗ ((bigSep Finset.univ fun k : CK => atPos ER (kcell (c, k)) 0 ∅ 0) ∗ bigSep Finset.univ fun k : CK => reached ER (kcell (c, k)) 0) ∗ minted c) : sProp 𝕄)
      ⊢ bigSep Finset.univ (opened X W) := by
    simp only [bigSep_sep']
    rw [← bigSep_univ_prod (fun ck : Dev nD × CK => iprop(∃ κ : ℕ, cellInv ER (sched X W) κ (kcell ck))),
      ← bigSep_univ_prod (fun ck : Dev nD × CK => (reached ER (kcell ck) 0 : sProp 𝕄))]
    iintro ⟨HI, ⟨Hat, #HR⟩, Htok⟩
    ihave HK := (BI.bigSep_exists_pi Finset.univ (fun (ck : Dev nD × CK) (κ : ℕ) => (cellInv ER (sched X W) κ (kcell ck) : sProp 𝕄))) $$ HI
    icases HK with ⟨%K, #HI⟩
    ihave Htk := (pays_around (F := F)) $$ Htok
    iapply (bigSep_with_persistent (R := book X W K) fun c _ => hone K c)
    isplitr
    · unfold book; isplitl; · iexact HI
      iexact HR
    · iapply (Entails.of_eq (bigSep_sep' Finset.univ (fun c : Dev nD => bigSep Finset.univ fun k : CK => (atPos ER (kcell (c, k)) 0 ∅ 0 : sProp 𝕄)) pays).symm)
      isplitl [Hat] <;> iassumption
  exact ((bigSep_mono fun c _ => core_open X W c).trans (bigSep_fupd _ _)).trans (BI.fupd_mono hgoal)

/-! ## The credits -/

omit [FloatOps F] in
theorem credits (c : Dev nD) : (Pipeline.launchCred O₀ c : sProp 𝕄)
    ⊢ iprop(cred (tallyAt (barCell c) () 2) ∗ bigSep Finset.univ fun l : Leg => cred (tallyAt (rcvCell c l) () N)) := by
  have e : (O₀ : Dev nD → CellTallies nD τ sig Unit)
      = fun d => ((∑ l ∈ (Finset.univ : Finset Leg), tallyAt (rcvCell (fwd l.1 d) l) () N) + tallyAt (barCell (bwd true d)) () 1) + tallyAt (barCell (bwd false d)) () 1 := rfl
  have hb (b : Bool) : (Pipeline.launchCred (fun d => tallyAt (barCell (bwd b d)) () 1) c : sProp 𝕄) ⊢ cred (tallyAt (barCell c) () 1) :=
    Pipeline.launchCred_tallyAt (.reg barS) (bwd b) (fwd b) (bwd_fwd b) (fwd_bwd b) () 1 c
  have hl : (bigSep Finset.univ fun l : Leg => (Pipeline.launchCred (fun d => tallyAt (rcvCell (fwd l.1 d) l) () N) c : sProp 𝕄))
      ⊢ bigSep Finset.univ fun l : Leg => cred (tallyAt (rcvCell c l) () N) :=
    bigSep_mono fun l _ => Pipeline.launchCred_tallyAt (.dma (rcvS l.1 l.2.1 l.2.2).sem) (fwd l.1) (bwd l.1) (fwd_bwd l.1) (bwd_fwd l.1) () N c
  rw [e, Pipeline.launchCred_add, Pipeline.launchCred_add, Pipeline.launchCred_sum]
  iintro ⟨⟨Hl, H1⟩, H0⟩
  ihave Hl := hl $$ Hl
  ihave H1 := (hb true) $$ H1
  ihave H0 := (hb false) $$ H0
  isplitl [H0 H1]
  · rw [show (tallyAt (barCell c) () 2 : CellTallies nD τ sig Unit) = tallyAt (barCell c) () 1 + tallyAt (barCell c) () 1 from (tallyAt_add _ _ 1 1).symm]
    iapply (cred_add _ _).2
    isplitl [H0] <;> iassumption
  iexact Hl

/-- What device `c`'s body starts from, beside its buffers. -/
def start (c : Dev nD) : sProp 𝕄 :=
  iprop(∃ K, world X W K ∗ dutyTok ER (barCell (bwd false c)) 0 false ∗ dutyTok ER (barCell (bwd true c)) 0 true
    ∗ cred (tallyAt (barCell c) () 2) ∗ atPos ER (barCell c) 0 ∅ 0 ∗ bigSep Finset.univ fun l : Leg => gear c l)

theorem start_made (c : Dev nD) : iprop(levAts L lv ∗ Pipeline.launchCred O₀ c ∗ opened X W c) ⊢ start X W c := by
  unfold opened start pays
  iintro ⟨HL, Hc, ⟨%K, HB, Ha, ⟨Ht0, Ht1⟩, Ht⟩⟩
  ihave Hc := (credits (F := F) c) $$ Hc
  icases Hc with ⟨Hcb, Hcl⟩
  ihave Ha := (Entails.of_eq (cells_split (F := F) fun k => atPos ER (kcell (c, k)) 0 ∅ 0)) $$ Ha
  icases Ha with ⟨Hab, Has, Har⟩
  iexists K
  unfold world gear
  simp only [bigSep_sep']
  isplitl [HB HL]; · isplitl [HB] <;> iassumption
  isplitl [Ht0]; · iexact Ht0
  isplitl [Ht1]; · iexact Ht1
  isplitl [Hcb]; · iexact Hcb
  isplitl [Hab]; · iexact Hab
  isplitl [Ht]; · iexact Ht
  isplitl [Hcl]; · iexact Hcl
  isplitl [Har]; · iexact Har
  iexact Has

end Ghost

end Cert.RingMatmul

end
-- ==== Proof.Run.lean ====
/-
# The run of the whole program

The body in the staging pipeline's form, the launch's remaining conditions, and `run_main`: over any float values and from
any memory with zero counters, the program ends, with every semaphore counter at zero and the windows' arrays at
`finalA`. `finalA_arg0`, `finalA_arg1` and `finalA_out` read them: the operands as launched and the result `OUT`.
-/
module

public import proofs.«01_k».proof.Proof.Launch
public import proofs.«01_k».proof.Proof.Gen.KernelIdeal.Frame
public import Idealize.ShloMosaic.Lib.Pipeline.CollectiveSegs
public import Idealize.ShloMosaic.Lib.Pipeline.ValueKit

@[expose] public section

noncomputable section

namespace Cert.RingMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state at launch: any memory, all counters zero. -/
def s₀ : MemSt nD τ sig (Elt F) := ⟨m, fun _ => 0, ρ⟩

/-- Device `c`'s left operand and weights as staged. -/
def XS (c : Dev nD) : Vec F S2048x512 .bf16 := (win0_0.blk (0 : Fin 1)).view.read (Elt F) ((s₀ m ρ).mem ((c : Thread nD τ).loc main_arg0))
def WS (c : Dev nD) : Vec F S512x2048 .bf16 := (win0_1.blk (0 : Fin 1)).view.read (Elt F) ((s₀ m ρ).mem ((c : Thread nD τ).loc main_arg1))

/-- The four scratch buffers at unsaid contents. -/
def scratch (c : Dev nD) : sProp 𝕄 :=
  iprop((∃ Y, owns (c : Thread nD τ) (cM false) fullShare Y) ∗ (∃ Y, owns (c : Thread nD τ) (cM true) fullShare Y)
    ∗ (∃ Y, owns (c : Thread nD τ) (pM false) fullShare Y) ∗ (∃ Y, owns (c : Thread nD τ) (pM true) fullShare Y))
/-- The protocol's counters at zero. -/
def closed (c : Dev nD) : sProp 𝕄 :=
  iprop(semVal (barCell c) 0 ∗ bigSep Finset.univ fun l : Leg => iprop(semVal (rcvCell c l) 0 ∗ semVal (sndCell c l) 0))

/-- The body's state before and after its one point. -/
def Φ₀ (c : Dev nD) : sProp 𝕄 := iprop(start (XS m ρ) (WS m ρ) c ∗ scratch c)
def Φ₁ (c : Dev nD) : sProp 𝕄 := iprop(closed (F := F) c ∗ scratch c)

/-- The pipeline's proof data: inputs staged, the result `OUT` at the end. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => XS m ρ c
    | ⟨1, _⟩ => WS m ρ c
    | ⟨2, _⟩ => OUT (XS m ρ) (WS m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem share_full (c : Dev nD) (w : Fin cfg0.W) : (dats m ρ 0 c).share w = fullShare := by unfold Dat.share; split <;> rfl

/-! ## The body obligation -/

/-- The obligation's two sides at this kernel. -/
def bodyPre (c : Dev nD) : sProp 𝕄 :=
  iprop(Φ₀ m ρ c ∗ (dats m ρ 0 c).owesAt () t0_0.castSucc
    ∗ (∃ d, owns (c : Thread nD τ) xM fullShare ((dats m ρ 0 c).before (0 : Fin 3) t0_0 d))
    ∗ (∃ d, owns (c : Thread nD τ) wM fullShare ((dats m ρ 0 c).before (1 : Fin 3) t0_0 d))
    ∗ (∃ d, owns (c : Thread nD τ) oM fullShare ((dats m ρ 0 c).before (2 : Fin 3) t0_0 d)))
def bodyPost (c : Dev nD) : sProp 𝕄 :=
  iprop(Φ₁ c ∗ (dats m ρ 0 c).owesAt () t0_0.succ ∗ owns (c : Thread nD τ) xM fullShare (XS m ρ c)
    ∗ owns (c : Thread nD τ) wM fullShare (WS m ρ c) ∗ owns (c : Thread nD τ) oM fullShare (OUT (XS m ρ) (WS m ρ) c))

theorem before_0 (c : Dev nD) (d) : (dats m ρ 0 c).before (0 : Fin 3) t0_0 d = XS m ρ c := by
  unfold Dat.before; rw [if_pos (fetch0_0 t0_0)]; rfl
theorem before_1 (c : Dev nD) (d) : (dats m ρ 0 c).before (1 : Fin 3) t0_0 d = WS m ρ c := by
  unfold Dat.before; rw [if_pos (fetch0_1 t0_0)]; rfl

theorem body_staged (c : Dev nD) : bodyPre m ρ c ⊢ Runs c bodyP (fun _ => bodyPost m ρ c) := by
  unfold bodyPre Φ₀ start scratch Dat.owesAt Pipeline.owesWithin
  simp only [before_0, before_1]
  rw [show (dats m ρ 0 c).owed t0_0.castSucc = O₀ c from rfl]
  iintro ⟨⟨⟨%K, HW, Ht0, Ht1, Hcb, Hab, Hg⟩, Hc0, Hc1, Hp0, Hp1⟩, ⟨%V, -, HO⟩, ⟨%d0, Hx⟩, ⟨%d1, Hw⟩, ⟨%d2, Ho⟩⟩
  iapply (body_runs (XS m ρ) (WS m ρ) K c) $$ [HW HO Ht0 Ht1 Hcb Hab Hg Hc0 Hc1 Hp0 Hp1 Hx Hw Ho]
  · isplitl [HW]; · iexact HW
    unfold before due
    isplitl [HO]; · iexists V; iexact HO
    isplitl [Ht0]; · iexact Ht0
    isplitl [Ht1]; · iexact Ht1
    isplitl [Hcb]; · iexact Hcb
    isplitl [Hab]; · iexact Hab
    isplitl [Hg]; · iexact Hg
    isplitl [Hx]; · iexact Hx
    isplitl [Hw]; · iexact Hw
    isplitl [Ho]; · iexists _; iexact Ho
    isplitl [Hc0]; · iexact Hc0
    isplitl [Hc1]; · iexact Hc1
    isplitl [Hp0] <;> iassumption
  unfold later due bodyPost Φ₁ closed scratch Dat.owesAt Pipeline.owesWithin
  iintro ⟨⟨%V', HO⟩, Hb, Hz, Hx, Hw, Ho, Hs⟩
  isplitl [Hb Hz Hs]
  · isplitl [Hb Hz]
    · isplitl [Hb] <;> iassumption
    iexact Hs
  isplitl [HO]
  · iexists V'
    isplitr; · ipureintro; exact fun _ _ => Or.inl trivial
    iexact HO
  isplitl [Hx]; · iexact Hx
  isplitl [Hw] <;> iassumption

set_option maxRecDepth 8000 in
theorem body_called : (defs₀ (F := F)) .tc cfg0.body (cfg0.bodyArgs t0_0 (cfg0.slots t0_0)) = bodyP := rfl

set_option maxRecDepth 8000 in
theorem body_obligation (c : Dev nD) : BodyObligation (dats (F := F) m ρ 0 c) (defs₀ (F := F)) 𝒱₀ () Set.univ := fun t => by
  rw [fin_N0 t]
  rw [bigSep_W0, bigSep_W0, body_called]
  refine BIBase.Entails.trans (Q := bodyPre m ρ c) ?_ (BIBase.Entails.trans (body_staged m ρ c) ?_)
  · unfold bodyPre
    refine sep_mono (BIBase.Entails.of_eq rfl) (sep_mono (BIBase.Entails.of_eq rfl) (sep_mono (BIBase.Entails.of_eq rfl) (sep_mono (BIBase.Entails.of_eq rfl) (BIBase.Entails.of_eq rfl))))
  · unfold bodyPost
    exact BIBase.Entails.of_eq rfl

/-! ## Entry and exit -/

omit [FloatOps F] in
theorem whole_owned (c : Dev nD) (b : Ref sig .tc) : (iprop(∃ Y, owns (c : Thread nD τ) (Memref.whole b) fullShare Y) : sProp 𝕄)
    = iprop(∃ f : Buf (Elt F) ((c : Thread nD τ).loc b), ((c : Thread nD τ).loc b) ↦{fullShare} f) := by
  unfold owns
  simp only [Memref.view_whole, View.read_whole, View.set_whole]
  refine BI.Entails.antisymm ?_ ?_
  · have h : (iprop(∃ Y : b.ty.Contents (Elt F), ∃ f : Buf (Elt F) ((c : Thread nD τ).loc b), ⌜f = Y⌝ ∗ (((c : Thread nD τ).loc b) ↦{fullShare} f)) : sProp 𝕄)
        ⊢ iprop(∃ f : Buf (Elt F) ((c : Thread nD τ).loc b), ((c : Thread nD τ).loc b) ↦{fullShare} f) := by
      iintro ⟨%Y, %f, -, H⟩; iexists f; iexact H
    exact h
  · have h : (iprop(∃ f : Buf (Elt F) ((c : Thread nD τ).loc b), ((c : Thread nD τ).loc b) ↦{fullShare} f) : sProp 𝕄)
        ⊢ iprop(∃ Y : b.ty.Contents (Elt F), ∃ f : Buf (Elt F) ((c : Thread nD τ).loc b), ⌜f = Y⌝ ∗ (((c : Thread nD τ).loc b) ↦{fullShare} f)) := by
      iintro ⟨%f, H⟩; iexists f; iexists f
      isplitr; · ipureintro; rfl
      iexact H
    exact h

omit [FloatOps F] in
theorem scratch_eq (c : Dev nD) : (scratch c : sProp 𝕄) = Pipeline.scopedRest cfg0.spec c := by
  rw [scopedRest0_eq, ← whole_owned, ← whole_owned, ← whole_owned, ← whole_owned]; rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ opened (XS m ρ) (WS m ρ) c)
      ⊢ |={Set.univ}=> iprop(start (XS m ρ) (WS m ρ) c ∗ emp) := by
  iintro ⟨-, HL, Hc, -, HG⟩
  imodintro
  isplitl
  · iapply (start_made (XS m ρ) (WS m ρ) c)
    isplitl [HL]; · iexact HL
    isplitl [Hc] <;> iassumption
  · iempintro

theorem enter (c : Dev nD) :
    iprop(start (XS m ρ) (WS m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scratch_eq]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq, ownSems_eq, unscoped_eq]
  unfold Φ₁ closed
  rw [bigSep_sep']
  iintro ⟨⟨Hb, Hr, Hs⟩, Hx⟩
  iframe Hb Hr Hs Hx

theorem ownSemFacts : Pipeline.OwnSemFacts cfg0.spec osem := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- Window `w`'s array on device `c` at the end. -/
def finalA (c : Dev nD) (w : Fin cfg0.W) : Buf (Elt F) ((cfg0.win w).arr.view.loc (c : Thread nD τ)) := (dats m ρ 0 c).arrAt w cfg0.N

/-- Every window's array is at `finalA`. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The program ends, every array at `finalA` and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_full m ρ) (hdistinct := winFacts0.arr_inj)
    (O₀ := O₀) (howed₀ := fun _ => rfl) (howedN := fun _ => rfl)
    (L := L) (lv := lv) (hL := L_of_ne) (hwaits := waits m ρ)
    (G := dealt (XS m ρ) (WS m ρ)) (G' := opened (XS m ρ) (WS m ρ)) (u₀ := u₀)
    (hu₀ := by
      unfold u₀
      iintro Hu
      ihave H := (ownU_pair _ _) $$ Hu
      icases H with ⟨HP, HX⟩
      imod (fund_all (XS m ρ) (WS m ρ)) $$ HX with HG
      imodintro
      isplitl [HP] <;> iassumption)
    (hglob := open_all (XS m ρ) (WS m ρ))
    (hA := fun _ _ => rfl) (hpf := fun _ k => k.elim0)
    (X := start (XS m ρ) (WS m ρ)) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

omit [FloatOps F] in
/-- The staged operands are the arrays as launched. -/
theorem XS_eq (c : Dev nD) : XS m ρ c = m ((c.tc : Thread nD τ).loc main_arg0) := by
  funext i; unfold XS; rw [View.read_apply]; refine congrArg (m ((c.tc : Thread nD τ).loc main_arg0)) (funext fun a => Fin.ext ?_)
  blk_simp
  exact (congrArg (· + (i a).val) (Nat.zero_mul _)).trans (Nat.zero_add _)
omit [FloatOps F] in
theorem WS_eq (c : Dev nD) : WS m ρ c = m ((c.tc : Thread nD τ).loc main_arg1) := by
  funext i; unfold WS; rw [View.read_apply]; refine congrArg (m ((c.tc : Thread nD τ).loc main_arg1)) (funext fun a => Fin.ext ?_)
  blk_simp
  exact (congrArg (· + (i a).val) (Nat.zero_mul _)).trans (Nat.zero_add _)

theorem finalA_arg0 (c : Dev nD) : finalA m ρ c (0 : Fin 3) = m ((c.tc : Thread nD τ).loc main_arg0) := (dats m ρ 0 c).arrAt_in (0 : Fin 3) rfl _
theorem finalA_arg1 (c : Dev nD) : finalA m ρ c (1 : Fin 3) = m ((c.tc : Thread nD τ).loc main_arg1) := (dats m ρ 0 c).arrAt_in (1 : Fin 3) rfl _
theorem finalA_out (c : Dev nD) : finalA m ρ c (2 : Fin 3) = OUT (XS m ρ) (WS m ρ) c :=
  (dats m ρ 0 c).arrAt_eq_of_after_last (2 : Fin 3) t0_0 (by decide +kernel) _ fun j => by
    refine congrArg (OUT (XS m ρ) (WS m ρ) c) (funext fun a => Fin.ext ?_)
    blk_simp

/-- The program's run by its arguments and result: the operands unchanged, the result `OUT` of them, all counters zero. -/
theorem run_named : θ_run defs (onTc (τ := τ) (main (F := F))) ⟨m, fun _ => 0, ρ⟩ (fun r => (∀ c : Dev nD,
      r.2.mem ((c.tc : Thread nD τ).loc main_v1)
        = OUT (fun c => m ((c.tc : Thread nD τ).loc main_arg0)) (fun c => m ((c.tc : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c (2 : Fin 3)).trans (finalA_out m ρ c)).trans
      (by rw [show XS m ρ = _ from funext (XS_eq m ρ), show WS m ρ = _ from funext (WS_eq m ρ)]),
    (h.1 c (0 : Fin 3)).trans (finalA_arg0 m ρ c), (h.1 c (1 : Fin 3)).trans (finalA_arg1 m ρ c)⟩, h.2⟩) (run_main m ρ)

end Cert.RingMatmul

end
-- ==== Proof.Frames.lean ====
/-
# The frame claims

The kernel's two frames are its run (`run_named`) read at the operands and the counters: once at `Ideal`, once at `Bits`,
where `Kernel` is the same text. The references run host operations alone and declare no semaphore.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.SiluIdeal.Run
public import Idealize.ShloMosaic.Lib.Quiescent
public import Idealize.ShloMosaic.Lib.Tactic

@[expose] public section

noncomputable section

namespace Cert.RingMatmul

open Idealize.ShloMosaic Idealize.SL.Sem

/-- The idealised kernel ends, its operands unchanged and every counter at zero. -/
theorem frame_ideal : Cert.quiescent_KernelIdeal := fun m ρ _ =>
  (θ_run Cert.KernelIdeal.defs _ _).mono (fun _ h => ⟨fun c => (h.1 c).2, h.2⟩) (run_named (F := Ideal) m ρ)

/-- At `Bits` the kernel as printed is the idealised kernel's own text: their runs are one. -/
theorem runs_alike (m : (ℓ : Loc Cert.Kernel.nD Cert.Kernel.τ Cert.Kernel.sig) → Buf (Elt Bits) ℓ) (ρ : Dev Cert.Kernel.nD → PrngReg)
    (post : PUnit × MemSt Cert.Kernel.nD Cert.Kernel.τ Cert.Kernel.sig (Elt Bits) → Prop) :
    θ_run (Cert.Kernel.defs (F := Bits)) (onTc (τ := Cert.Kernel.τ) (Cert.Kernel.main (F := Bits))) ⟨m, fun _ => 0, ρ⟩ post
      = θ_run (Cert.KernelIdeal.defs (F := Bits)) (onTc (τ := Cert.KernelIdeal.τ) (Cert.KernelIdeal.main (F := Bits))) ⟨m, fun _ => 0, ρ⟩ post := by
  sl_kernel_rfl

/-- The kernel as printed ends, its operands unchanged and every counter at zero. -/
theorem frame_bits : Cert.quiescent_Kernel := fun m ρ _ => by
  rw [runs_alike]
  exact (θ_run Cert.KernelIdeal.defs _ _).mono (fun _ h => ⟨fun c => (h.1 c).2, h.2⟩) (run_named (F := Bits) m ρ)

/-- The reference ends, its arguments unchanged and (having no semaphore) every counter at zero. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- So does the reference without the clip. -/
theorem frame_silu : Cert.quiescent_SiluIdeal := fun m ρ _ =>
  (θ_run Cert.SiluIdeal.defs _ _).mono (fun r h => ⟨fun c => (h c).2, sem_eq_zero_of_no_sems rfl r.2⟩)
    (Cert.SiluIdeal.Value.run (F := Ideal) m ρ)

end Cert.RingMatmul

end
-- ==== Proof.Value.lean ====
/-
# The value of the result

At the ideal values a change of format does nothing and `+` is a commutative sum, so a block that has gone round the ring
holds the sum of the four devices' products for its rows, which is the whole product's block: the contraction over 2048
positions cut into the devices' four runs of 512. `OUT_val` says that device `c`'s result at an index is `silu` of the
whole product at the index's place in the whole array.
-/
module

public import proofs.«01_k».proof.Proof.Protocol
public import Idealize.ShloMosaic.PureOps.Ideal
public import Idealize.ShloMosaic.PureOps.Ideal.Laws
public import Idealize.ShloMosaic.Lib.Layout
public import Idealize.ShloMosaic.Lib.MatmulPlain
public import Mathlib.Logic.Equiv.Fin.Basic

@[expose] public section

noncomputable section

namespace Cert.RingMatmul

open Cert.KernelIdeal Cert.KernelIdeal.Gen
open Idealize.ShloMosaic Idealize.ShloMosaic.TcCoe Idealize.ShloMosaic.ValueIdx
open scoped BigOperators

/-- The shape of both whole operands and of the whole result. -/
abbrev Whole : Shape := ⟨2, ![2048, 2048]⟩

variable (A B : Whole.Idx → EReal)

/-- One product of the contraction. -/
def term (i : Whole.Idx) (k : Fin 2048) : EReal := A (ix2 (i 0) k) * B (ix2 k (i 1))
/-- The whole product, -/
def prodAt (i : Whole.Idx) : EReal := ∑ k : Fin 2048, term A B i k

/-- Position `q` of device `d`'s run of the contraction. -/
def place (d : Fin 4) (q : Fin 512) : Fin 2048 := ⟨512 * d.val + q.val, by omega⟩
/-- and the part of the product that device `d`'s operands hold. -/
def partAt (d : Fin 4) (i : Whole.Idx) : EReal := ∑ q : Fin 512, term A B i (place d q)

/-- The four parts make the product. -/
theorem sum_parts (i : Whole.Idx) : ∑ d : Fin 4, partAt A B d i = prodAt A B i := by
  unfold partAt prodAt
  rw [← Fintype.sum_prod_type' (fun (d : Fin 4) (q : Fin 512) => term A B i (place d q))]
  refine Fintype.sum_equiv (finProdFinEquiv (m := 4) (n := 512)) _ _ fun p => congrArg (term A B i) (Fin.ext ?_)
  show 512 * p.1.val + p.2.val = p.2.val + 512 * p.1.val
  omega

/-- A device and the three behind it are all four. -/
theorem sum_round (f : Fin 4 → EReal) (b : Bool) (c : Dev nD) :
    f c + (f (bwd b c) + (f (bwd b (bwd b c)) + f (bwd b (bwd b (bwd b c))))) = ∑ d : Fin 4, f d := by
  rw [Fin.sum_univ_four]
  have e : ∀ (b : Bool) (c : Dev nD), (bwd b c = c + (if b then 1 else 3)) := by decide
  rw [e, e, e]
  match b, c with
  | false, 0 => show f 0 + (f 3 + (f 2 + f 1)) = _; abel
  | false, 1 => show f 1 + (f 0 + (f 3 + f 2)) = _; abel
  | false, 2 => show f 2 + (f 1 + (f 0 + f 3)) = _; abel
  | false, 3 => show f 3 + (f 2 + (f 1 + f 0)) = _; abel
  | true, 0 => show f 0 + (f 1 + (f 2 + f 3)) = _; abel
  | true, 1 => show f 1 + (f 2 + (f 3 + f 0)) = _; abel
  | true, 2 => show f 2 + (f 3 + (f 0 + f 1)) = _; abel
  | true, 3 => show f 3 + (f 0 + (f 1 + f 2)) = _; abel

/-- Where an index of direction `b`'s half of row block `r` is in the whole result. -/
def spot (b : Bool) (r : Fin 4) (j : S512x1024.Idx) : Whole.Idx :=
  ix2 ⟨512 * r.val + (j 0).val, by have := (j 0).isLt; change (j 0).val < 512 at this; omega⟩
    ⟨col b + (j 1).val, by have := (j 1).isLt; change (j 1).val < 1024 at this; cases b <;> (show _ + _ < _); · show 0 + _ < _; omega
                           · show 1024 + _ < _; omega⟩

/-- The devices' operands as blocks of the whole ones. -/
abbrev blkX (c : Dev nD) : Vec Ideal S2048x512 .bf16 := Layout.block ⟨2, ![2048, 512]⟩ Whole 1 4 c A
abbrev blkW (c : Dev nD) : Vec Ideal S512x2048 .bf16 := Layout.block ⟨2, ![512, 2048]⟩ Whole 0 4 c B

/-- A device's product of a row block and a direction's columns is its part of the whole product there. -/
theorem prodV_val (b : Bool) (k : ℕ) (c : Dev nD) (j : S512x1024.Idx) :
    prodV (F := Ideal) (blkX A) (blkW B) b k c j = partAt A B c (spot b (rowOf b k c) j) := by
  have e : prodV (F := Ideal) (blkX A) (blkW B) b k c
      = FloatOps.matmul (φ₁ := .bf16) (φ₂ := .bf16) (DotDims.plain 512 512 1024) none (rowsV (blkX A) (rowOf b k c) c) (sideV (blkW B) b c)
          (constant (F := Ideal) S512x1024 .f32 0x00000000#32) := by
    unfold prodV k0_pay5
    rw [shapeCast_self, shapeCast_self]
    rfl
  refine (congrFun e j).trans ((congrArg _ (eq_ix2 (n0 := 512) (n1 := 1024) j)).trans
    ((Ideal.matmul_plain_apply none _ _ _ (j 0) (j 1)).trans ?_))
  refine ((congrArg (· + _) Ideal.ofBits_zero_f32).trans (zero_add _)).trans ?_
  refine Finset.sum_congr rfl fun q _ => ?_
  unfold term
  refine congrArg₂ (· * ·) (congrArg A (funext fun a => Fin.ext ?_)) (congrArg B (funext fun a => Fin.ext ?_))
  · match a with
    | 0 => show 512 * (rowOf b k c).val + 1 * (j 0).val = 512 * (rowOf b k c).val + (j 0).val; omega
    | 1 => show c.val * 512 + (0 + 1 * q.val) = 512 * c.val + q.val; omega
  · match a with
    | 0 => show c.val * 512 + (0 + 1 * q.val) = 512 * c.val + q.val; omega
    | 1 => show col b + 1 * (j 1).val = col b + (j 1).val; omega

/-- After the last hop a device holds the whole product at its own rows. -/
theorem accV_val (b : Bool) (c : Dev nD) (j : S512x1024.Idx) :
    accV (F := Ideal) (blkX A) (blkW B) b c j = prodAt A B (spot b c j) := by
  have e : accV (F := Ideal) (blkX A) (blkW B) b c j
      = prodV (blkX A) (blkW B) b 3 c j + (prodV (blkX A) (blkW B) b 2 (bwd b c) j
        + (prodV (blkX A) (blkW B) b 1 (bwd b (bwd b c)) j + prodV (blkX A) (blkW B) b 0 (bwd b (bwd b (bwd b c))) j)) := rfl
  rw [e]
  simp only [prodV_val, rowOf_bwd]
  rw [show (2 + 1 : ℕ) = 3 from rfl, rowOf_last, sum_round (fun d => partAt A B d (spot b c j)), sum_parts]

/-- `y · 1 / (1 + e^(-y))`, -/
def silu (y : EReal) : EReal := Ideal.div y (1 + Ideal.exp (-y))

/-- whose denominator is not zero. -/
theorem denom_ne_zero (y : EReal) : 1 + Ideal.exp y ≠ 0 := by
  have h : 0 ≤ Ideal.exp y := by
    induction y with
    | bot => simp
    | top => simp
    | coe r => rw [Ideal.exp_coe]; exact_mod_cast (Real.exp_pos r).le
  have h1 : (0 : EReal) < 1 + Ideal.exp y := lt_of_lt_of_le (by norm_num) (le_add_of_nonneg_right h)
  exact h1.ne'

theorem mul_logistic (y : EReal) : y * Ideal.logistic y = silu y := by
  unfold silu Ideal.logistic Ideal.div
  rw [if_neg (denom_ne_zero _), if_neg (denom_ne_zero _), one_mul]

theorem lastV_val (b : Bool) (c : Dev nD) (j : S512x1024.Idx) :
    lastV (F := Ideal) (blkX A) (blkW B) b c j = silu (prodAt A B (spot b c j)) := by
  rw [← accV_val, ← mul_logistic]
  rfl

/-- Device `c`'s result is its block of `silu` of the whole product. -/
theorem OUT_val (c : Dev nD) : OUT (F := Ideal) (blkX A) (blkW B) c
    = Layout.block ⟨2, ![512, 2048]⟩ Whole 0 4 c (fun i => silu (prodAt A B i)) := by
  funext i
  rw [Layout.block_apply]
  unfold OUT
  split
  · rw [lastV_val]
    refine congrArg (fun i => silu (prodAt A B i)) (funext fun a => Fin.ext ?_)
    match a with
    | 0 => show 512 * c.val + (i 0).val = c.val * 512 + (i 0).val; omega
    | 1 => show 0 + (i 1).val = (i 1).val; omega
  · rename_i h
    rw [lastV_val]
    refine congrArg (fun i => silu (prodAt A B i)) (funext fun a => Fin.ext ?_)
    match a with
    | 0 => show 512 * c.val + (i 0).val = c.val * 512 + (i 0).val; omega
    | 1 => show 1024 + ((i 1).val - 1024) = (i 1).val; omega

end Cert.RingMatmul

end
-- ==== Proof.Claims.lean ====
/-
# The value claims

The references' results as functions of the whole product, the mask read at an index, and the two claims: against `silu` of
the product at every entry, and against the clipped formula at every entry whose product lies between −60 and 60.
-/
module

public import proofs.«01_k».proof.Proof.Frames
public import proofs.«01_k».proof.Proof.Value
public import proofs.«01_k».proof.Proof.Gen.On_clip_is_idle
public import Idealize.ShloMosaic.Lib.IdealHost
public import Idealize.ShloMosaic.Lib.StackMember

@[expose] public section

noncomputable section

namespace Cert.RingMatmul

open Idealize.ShloMosaic Idealize.ShloMosaic.ValueIdx Idealize.SL.Sem

/-- The references' host product is the whole product. -/
theorem host_prod (A B : FVec Ideal Whole .bf16) (i : Whole.Idx) (h : FTy.bits .bf16 < FTy.bits .f32) :
    Host.dotGeneral (DotDims.plain 2048 2048 2048) none (extf .f32 A h) (extf .f32 B h) i = prodAt A B i :=
  (congrArg _ (ValueIdx.eq_ix2 (n0 := 2048) (n1 := 2048) i)).trans (StackMember.dotGeneral_plain_apply none _ _ (i 0) (i 1))

/-- The word of 60 is 60, -/
theorem sixty_word : Ideal.ofBits .f32 0x42700000#32 = ((60 : ℝ) : EReal) := by
  simp [Ideal.ofBits, Ideal.ieee, -EReal.coe_mul]; norm_num
/-- and that of −60 is −60. -/
theorem minus_sixty_word : Ideal.ofBits .f32 0xC2700000#32 = ((-60 : ℝ) : EReal) := by
  simp [Ideal.ofBits, Ideal.ieee, -EReal.coe_mul]; norm_num

/-- The clipped formula. -/
def clipped (y : EReal) : EReal := Ideal.div y (1 + Ideal.exp (-min ((60 : ℝ) : EReal) (max ((-60 : ℝ) : EReal) y)))

/-- Where the clip does nothing the clipped formula is `silu`. -/
theorem clipped_eq (y : EReal) (h : max y (-y) ≤ ((60 : ℝ) : EReal)) : clipped y = silu y := by
  have h1 : y ≤ ((60 : ℝ) : EReal) := (le_max_left _ _).trans h
  have h2 : ((-60 : ℝ) : EReal) ≤ y := by
    rw [EReal.coe_neg]; exact EReal.neg_le_of_neg_le ((le_max_right _ _).trans h)
  unfold clipped silu
  rw [max_eq_right h2, min_eq_right h1]

/-- The reference without the clip ends at `silu` of the whole product. -/
theorem silu_result (m : (ℓ : Loc Cert.SiluIdeal.nD Cert.SiluIdeal.τ Cert.SiluIdeal.sig) → Buf (Elt Ideal) ℓ) (g : Dev Cert.SiluIdeal.nD → PrngReg) :
    θ_run (Cert.SiluIdeal.defs (F := Ideal)) (onTc (τ := Cert.SiluIdeal.τ) (Cert.SiluIdeal.main (F := Ideal))) ⟨m, fun _ => 0, g⟩ fun r => ∀ c : Dev Cert.SiluIdeal.nD,
      r.2.mem ((c.tc : Thread Cert.SiluIdeal.nD Cert.SiluIdeal.τ).loc Cert.SiluIdeal.main_v7)
        = (fun i => silu (prodAt (m ((c.tc : Thread Cert.SiluIdeal.nD Cert.SiluIdeal.τ).loc Cert.SiluIdeal.main_arg0)) (m ((c.tc : Thread Cert.SiluIdeal.nD Cert.SiluIdeal.τ).loc Cert.SiluIdeal.main_arg1)) i))
      ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1) :=
  (θ_run Cert.SiluIdeal.defs _ _).mono (fun _ h c => ⟨(h c).1.trans (funext fun i => by
    rw [← host_prod _ _ i (by decide)]
    unfold silu
    rw [← Ideal.ofBits_one_f32]
    rfl), (h c).2⟩) (Cert.SiluIdeal.Value.run (F := Ideal) m g)

/-- The reference ends at the clipped formula of the whole product. -/
theorem reference_result (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r => ∀ c : Dev Cert.ReferenceIdeal.nD,
      r.2.mem ((c.tc : Thread Cert.ReferenceIdeal.nD Cert.ReferenceIdeal.τ).loc Cert.ReferenceIdeal.main_v8)
        = (fun i => clipped (prodAt (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) i))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  (θ_run Cert.ReferenceIdeal.defs _ _).mono (fun _ h c => ⟨(h c).1.trans (funext fun i => by
    rw [← host_prod _ _ i (by decide)]
    unfold clipped
    rw [← Ideal.ofBits_one_f32, ← sixty_word, ← minus_sixty_word]
    rfl), (h c).2⟩) (Cert.ReferenceIdeal.Value.run (F := Ideal) m g)

/-- Where the mask is set the product lies between −60 and 60. -/
theorem mask_bound (A B : FVec Ideal Whole .bf16) (i : Whole.Idx) (h : Cert.On_clip_is_idle.fn (F := Ideal) A B i = 1#1) :
    max (prodAt A B i) (-prodAt A B i) ≤ ((60 : ℝ) : EReal) := by
  have e : Cert.On_clip_is_idle.fn (F := Ideal) A B i
      = Ideal.cmp .ole (max (prodAt A B i) (-prodAt A B i)) ((60 : ℝ) : EReal) := by
    rw [← host_prod _ _ i (by decide), ← sixty_word]
    rfl
  rw [e] at h
  by_contra hn
  simp [Ideal.cmp, hn] at h

/-- The kernel's results from operands that are blocks of the whole ones. -/
theorem kernel_result (m : (ℓ : Loc Cert.KernelIdeal.nD Cert.KernelIdeal.τ Cert.KernelIdeal.sig) → Buf (Elt Ideal) ℓ) (g : Dev Cert.KernelIdeal.nD → PrngReg)
    (A B : Whole.Idx → EReal)
    (h : ∀ c : Dev Cert.KernelIdeal.nD,
      m ((c.tc : Thread Cert.KernelIdeal.nD Cert.KernelIdeal.τ).loc Cert.KernelIdeal.main_arg0) = Layout.block ⟨2, ![2048, 512]⟩ Whole 1 4 c A
      ∧ m ((c.tc : Thread Cert.KernelIdeal.nD Cert.KernelIdeal.τ).loc Cert.KernelIdeal.main_arg1) = Layout.block ⟨2, ![512, 2048]⟩ Whole 0 4 c B) :
    θ_run (Cert.KernelIdeal.defs (F := Ideal)) (onTc (τ := Cert.KernelIdeal.τ) (Cert.KernelIdeal.main (F := Ideal))) ⟨m, fun _ => 0, g⟩ fun r => ∀ c : Dev Cert.KernelIdeal.nD,
      r.2.mem ((c.tc : Thread Cert.KernelIdeal.nD Cert.KernelIdeal.τ).loc Cert.KernelIdeal.main_v1)
        = Layout.block ⟨2, ![512, 2048]⟩ Whole 0 4 c (fun i => silu (prodAt A B i))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  (θ_run Cert.KernelIdeal.defs _ _).mono (fun _ hr c => ⟨((hr.1 c).1.trans
    (congrArg₂ (fun X W => OUT (F := Ideal) X W c) (funext fun d => (h d).1) (funext fun d => (h d).2))).trans (OUT_val A B c), (hr.1 c).2⟩)
    (run_named (F := Ideal) m g)

/-- At every entry the kernel's result is `silu` of the product, as the reference without the clip has it. -/
theorem value_silu : Cert.algebraic_KernelIdeal_SiluIdeal := fun m g m' g' _ h =>
  ⟨_, kernel_result m g _ _ h, (θ_run Cert.SiluIdeal.defs _ _).mono (fun _ hr => hr 0) (silu_result m' g')⟩

/-- At every entry whose product lies between −60 and 60 the kernel's result is the reference's. -/
theorem value_reference : Cert.algebraic_KernelIdeal_ReferenceIdeal_on_clip_is_idle := fun m g m' g' _ h =>
  ⟨fun i => silu (prodAt (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) i),
    (θ_run Cert.KernelIdeal.defs _ _).mono (fun _ hr c => ⟨fun i _ => congrFun (hr c).1 i, (hr c).2⟩) (kernel_result m g _ _ h),
    (θ_run Cert.ReferenceIdeal.defs _ _).mono (fun _ hr => ⟨fun i hi => (congrFun (hr 0).1 i).trans (clipped_eq _ (mask_bound _ _ i hi)), (hr 0).2⟩)
      (reference_result m' g')⟩

end Cert.RingMatmul

end
-- ==== Proof.lean ====
/-
# The certificate

Each claim is proved in a module of `Proof/`; here they are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.On_clip_is_idle
public import proofs.«01_k».proof.Proof.Frames
public import proofs.«01_k».proof.Proof.Claims

@[expose] public section

noncomputable section

namespace Cert.Proof

open Cert.RingMatmul

/-- Every claim of the certificate. -/
theorem claim : Cert.Claim := ⟨Cert.Kernel.Gen.facts, Cert.KernelIdeal.Gen.facts, Cert.ReferenceIdeal.Gen.facts, Cert.SiluIdeal.Gen.facts,
  Cert.On_clip_is_idle.Gen.facts, frame_bits, frame_ideal, frame_reference, frame_silu, trivial, value_silu, value_reference⟩

end Cert.Proof

end
